-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x768x8192 : Shape := ⟨3, ![4, 768, 8192]⟩
abbrev S8192x7168 : Shape := ⟨2, ![8192, 7168]⟩
abbrev S7168 : Shape := ⟨1, ![7168]⟩
abbrev S3072x8192 : Shape := ⟨2, ![3072, 8192]⟩
abbrev S1x7168 : Shape := ⟨2, ![1, 7168]⟩
abbrev S3072x1 : Shape := ⟨2, ![3072, 1]⟩
abbrev S3072x3584 : Shape := ⟨2, ![3072, 3584]⟩
abbrev S512x8192 : Shape := ⟨2, ![512, 8192]⟩
abbrev S8192x512 : Shape := ⟨2, ![8192, 512]⟩
abbrev S1x512 : Shape := ⟨2, ![1, 512]⟩
abbrev S512x1 : Shape := ⟨2, ![512, 1]⟩
abbrev S512x3584 : Shape := ⟨2, ![512, 3584]⟩
abbrev S32x8192 : Shape := ⟨2, ![32, 8192]⟩
abbrev S32 : Shape := ⟨1, ![32]⟩
abbrev S32x1 : Shape := ⟨2, ![32, 1]⟩
abbrev S512x512 : Shape := ⟨2, ![512, 512]⟩
abbrev S32x3584 : Shape := ⟨2, ![32, 3584]⟩
abbrev S4x768x1 : Shape := ⟨3, ![4, 768, 1]⟩
abbrev S4x768x3584 : Shape := ⟨3, ![4, 768, 3584]⟩

abbrev nBuf : Space → Nat
  | .hbm => 13
  | .vmem => 19
  | .smem => 0
  | _ => 0

abbrev bufTy : (tb : Table) → Fin (tcTables nBuf tb) → BufTy
  | .hbm, ⟨0, _⟩ => ⟨S4x768x8192, .bf16⟩
  | .hbm, ⟨1, _⟩ => ⟨S8192x7168, .fp8e4m3⟩
  | .hbm, ⟨2, _⟩ => ⟨S7168, .f32⟩
  | .hbm, ⟨3, _⟩ => ⟨S3072x8192, .bf16⟩
  | .hbm, ⟨4, _⟩ => ⟨S1x7168, .f32⟩
  | .hbm, ⟨5, _⟩ => ⟨S3072x1, .f32⟩
  | .hbm, ⟨6, _⟩ => ⟨S3072x3584, .fp8e4m3⟩
  | .hbm, ⟨7, _⟩ => ⟨S3072x8192, .fp8e4m3⟩
  | .hbm, ⟨8, _⟩ => ⟨S3072x1, .f32⟩
  | .hbm, ⟨9, _⟩ => ⟨S4x768x1, .f32⟩
  | .hbm, ⟨10, _⟩ => ⟨S4x768x3584, .fp8e4m3⟩
  | .hbm, ⟨11, _⟩ => ⟨S4x768x8192, .fp8e4m3⟩
  | .hbm, ⟨12, _⟩ => ⟨S4x768x1, .f32⟩
  | .local _ .vmem, ⟨0, _⟩ => ⟨S512x8192, .bf16⟩
  | .local _ .vmem, ⟨1, _⟩ => ⟨S512x8192, .bf16⟩
  | .local _ .vmem, ⟨2, _⟩ => ⟨S8192x512, .fp8e4m3⟩
  | .local _ .vmem, ⟨3, _⟩ => ⟨S8192x512, .fp8e4m3⟩
  | .local _ .vmem, ⟨4, _⟩ => ⟨S8192x512, .fp8e4m3⟩
  | .local _ .vmem, ⟨5, _⟩ => ⟨S8192x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x1, .f32⟩
  | .local _ .vmem, ⟨11, _⟩ => ⟨S512x1, .f32⟩
  | .local _ .vmem, ⟨12, _⟩ => ⟨S512x3584, .fp8e4m3⟩
  | .local _ .vmem, ⟨13, _⟩ => ⟨S512x3584, .fp8e4m3⟩
  | .local _ .vmem, ⟨14, _⟩ => ⟨S512x8192, .fp8e4m3⟩
  | .local _ .vmem, ⟨15, _⟩ => ⟨S512x8192, .fp8e4m3⟩
  | .local _ .vmem, ⟨16, _⟩ => ⟨S512x1, .f32⟩
  | .local _ .vmem, ⟨17, _⟩ => ⟨S512x1, .f32⟩
  | .local _ .vmem, ⟨18, _⟩ => ⟨S512x3584, .f32⟩
  | _, _ => ⟨S4x768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![6, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c16_i32 : BitVec 32 := 16#32
  let v34 : BitVec 32 := Scalar.addi c0_i32_15 c16_i32
  let c1_i32 : BitVec 32 := 1#32
  ⟨c0_i32_15, v34, c1_i32⟩
def k0_off1 (k0_t1 : Fin k0_t1_loop.trips) : Fin 2 → Nat :=
  let c0_i32_15 : BitVec 32 := 0#32
  let c1_i32 : BitVec 32 := 1#32
  let arg12 : BitVec 32 := Scf.iv c0_i32_15 c1_i32 k0_t1
  let c32_i32 : BitVec 32 := 32#32
  let v35 : BitVec 32 := Scalar.muli arg12 c32_i32
  let v36 : Index := Scalar.indexCast v35
  let c0_17 : Index := 0#32
  ![v36.toNat, 0]
def k0_off2 (k0_t1 : Fin k0_t1_loop.trips) : Fin 2 → Nat :=
  let c0_i32_15 : BitVec 32 := 0#32
  let c1_i32 : BitVec 32 := 1#32
  let arg12 : BitVec 32 := Scf.iv c0_i32_15 c1_i32 k0_t1
  let c32_i32 : BitVec 32 := 32#32
  let v35 : BitVec 32 := Scalar.muli arg12 c32_i32
  let v188 : Index := Scalar.indexCast v35
  let c0_69 : Index := 0#32
  ![v188.toNat, 0]
def k0_off3 (i : grid0.Coords) : Fin 2 → Nat :=
  let c0_13 : Index := 0#32
  let arg1 : BitVec 32 := BitVec.ofNat 32 (i 1).val
  let c512_i32 : BitVec 32 := 512#32
  let v26 : BitVec 32 := Scalar.muli arg1 c512_i32
  let v27 : Index := Scalar.indexCast v26
  ![0, v27.toNat]
def k0_cond2 (i : grid0.Coords) : BitVec 1 :=
  let arg1 : BitVec 32 := BitVec.ofNat 32 (i 1).val
  let c6_i32 : BitVec 32 := 6#32
  let v31 : BitVec 1 := Scalar.cmpi .eq arg1 c6_i32
  let v32 : BitVec 32 := Scalar.extui v31
  let c0_i32_14 : BitVec 32 := 0#32
  let v33 : BitVec 1 := Scalar.cmpi .ne v32 c0_i32_14
  v33

@[reducible] def k0_t2_loop : Scf.Loop 32 :=
  let c0_i32_15 : BitVec 32 := 0#32
  let c16_i32 : BitVec 32 := 16#32
  let v34 : BitVec 32 := Scalar.addi c0_i32_15 c16_i32
  let c1_i32 : BitVec 32 := 1#32
  ⟨c0_i32_15, v34, c1_i32⟩
def k0_off4 (k0_t2 : Fin k0_t2_loop.trips) : Fin 2 → Nat :=
  let c0_i32_15 : BitVec 32 := 0#32
  let c1_i32 : BitVec 32 := 1#32
  let arg12 : BitVec 32 := Scf.iv c0_i32_15 c1_i32 k0_t2
  let c32_i32 : BitVec 32 := 32#32
  let v35 : BitVec 32 := Scalar.muli arg12 c32_i32
  let v36 : Index := Scalar.indexCast v35
  let c0_17 : Index := 0#32
  ![v36.toNat, 0]
def k0_off5 (k0_t2 : Fin k0_t2_loop.trips) : Fin 2 → Nat :=
  let c0_i32_15 : BitVec 32 := 0#32
  let c1_i32 : BitVec 32 := 1#32
  let arg12 : BitVec 32 := Scf.iv c0_i32_15 c1_i32 k0_t2
  let c32_i32 : BitVec 32 := 32#32
  let v35 : BitVec 32 := Scalar.muli arg12 c32_i32
  let v186 : Index := Scalar.indexCast v35
  let c0_69 : Index := 0#32
  ![v186.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8192x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x8192 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4x768x8192 : Shape := ⟨3, ![4, 768, 8192]⟩
abbrev S8192x7168 : Shape := ⟨2, ![8192, 7168]⟩
abbrev S7168 : Shape := ⟨1, ![7168]⟩
abbrev S3072x8192 : Shape := ⟨2, ![3072, 8192]⟩
abbrev S1x7168 : Shape := ⟨2, ![1, 7168]⟩
abbrev S3072x1 : Shape := ⟨2, ![3072, 1]⟩
abbrev S3072x3584 : Shape := ⟨2, ![3072, 3584]⟩
abbrev S3072 : Shape := ⟨1, ![3072]⟩
abbrev S1x253 : Shape := ⟨2, ![1, 253]⟩
abbrev S3072x253 : Shape := ⟨2, ![3072, 253]⟩
abbrev S3072x7168 : Shape := ⟨2, ![3072, 7168]⟩
abbrev S4x768x1 : Shape := ⟨3, ![4, 768, 1]⟩
abbrev S4x768x3584 : Shape := ⟨3, ![4, 768, 3584]⟩

abbrev nBuf : Space → Nat
  | .hbm => 13
  | .vmem => 7
  | .smem => 0
  | _ => 0

abbrev bufTy : (tb : Table) → Fin (tcTables nBuf tb) → BufTy
  | .hbm, ⟨0, _⟩ => ⟨S4x768x8192, .bf16⟩
  | .hbm, ⟨1, _⟩ => ⟨S8192x7168, .fp8e4m3⟩
  | .hbm, ⟨2, _⟩ => ⟨S7168, .f32⟩
  | .hbm, ⟨3, _⟩ => ⟨S3072x8192, .bf16⟩
  | .hbm, ⟨4, _⟩ => ⟨S1x7168, .f32⟩
  | .hbm, ⟨5, _⟩ => ⟨S3072x1, .f32⟩
  | .hbm, ⟨6, _⟩ => ⟨S3072x3584, .fp8e4m3⟩
  | .hbm, ⟨7, _⟩ => ⟨S3072x8192, .fp8e4m3⟩
  | .hbm, ⟨8, _⟩ => ⟨S3072x1, .f32⟩
  | .hbm, ⟨9, _⟩ => ⟨S4x768x1, .f32⟩
  | .hbm, ⟨10, _⟩ => ⟨S4x768x3584, .fp8e4m3⟩
  | .hbm, ⟨11, _⟩ => ⟨S4x768x8192, .fp8e4m3⟩
  | .hbm, ⟨12, _⟩ => ⟨S4x768x1, .f32⟩
  | .local _ .vmem, ⟨0, _⟩ => ⟨S3072x8192, .bf16⟩
  | .local _ .vmem, ⟨1, _⟩ => ⟨S8192x7168, .fp8e4m3⟩
  | .local _ .vmem, ⟨2, _⟩ => ⟨S1x7168, .f32⟩
  | .local _ .vmem, ⟨3, _⟩ => ⟨S3072x1, .f32⟩
  | .local _ .vmem, ⟨4, _⟩ => ⟨S3072x3584, .fp8e4m3⟩
  | .local _ .vmem, ⟨5, _⟩ => ⟨S3072x8192, .fp8e4m3⟩
  | .local _ .vmem, ⟨6, _⟩ => ⟨S3072x1, .f32⟩
  | _, _ => ⟨S4x768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3072x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Tiles.lean ====
/-
  What the two row-tile loops of the kernel's body leave, as plain functions of what they read.

  Each loop walks the 512 rows of a block sixteen times 32 rows at a time. A trip reads 32 rows and writes their codes and
  their scales at the same rows. Here: `part` (the 32 rows a trip reads), `glue` (an array put together from sixteen
  such parts), what one trip computes of its 32 rows (`xCodesT`, `xScaleT`, `hCodesT`, `hScaleT`: the printed operations,
  composed), and the four arrays after the loops (`xCodes`, `xScale`, `hCodes`, `hScale`).
-/
module

public import proofs.«01_k».proof.Proof.Gen.KernelIdeal
public import proofs.«01_k».proof.Proof.Gen.KernelIdeal.Frame
public import proofs.«01_k».proof.Proof.Gen.KernelIdeal.Loops
public import Idealize.ShloMosaic.Lib.ValueIdxCore

@[expose] public section

set_option maxRecDepth 16384

noncomputable section

namespace Cert.KernelIdeal.Tiles

open Idealize.ShloMosaic Idealize.ShloMosaic.TcCoe Idealize.ShloMosaic.Tactic
open Idealize.ShloMosaic.ValueIdx (ix2)
open Idealize.SL.Sem
open Cert.KernelIdeal Cert.KernelIdeal.Gen

variable {F : FTy → Type} [FloatOps F]

/-! ## Rows 32k to 32k+31 of 512 -/

/-- Rows `32k` to `32k+31` of an array of 512 rows. -/
def part {α : Type} {n : ℕ} (X : (⟨2, ![512, n]⟩ : Shape).Idx → α) (k : Fin 16) : (⟨2, ![32, n]⟩ : Shape).Idx → α :=
  fun j => X (ix2 ⟨32 * k.val + (j 0).val, by have := k.isLt; have : (j 0).val < 32 := (j 0).isLt; omega⟩ (j 1))

/-- The array of 512 rows whose rows `32k` to `32k+31` are `G k`. -/
def glue {α : Type} {n : ℕ} (G : Fin 16 → (⟨2, ![32, n]⟩ : Shape).Idx → α) : (⟨2, ![512, n]⟩ : Shape).Idx → α :=
  fun y => G ⟨(y 0).val / 32, by have : (y 0).val < 512 := (y 0).isLt; omega⟩ (ix2 ⟨(y 0).val % 32, Nat.mod_lt _ (by decide)⟩ (y 1))

/-- Rows `32k` to `32k+31` as a rectangle. -/
abbrev stripe (n : ℕ) (k : Fin 16) : Rect ⟨2, ![512, n]⟩ :=
  Rect.unit (s := ⟨2, ![512, n]⟩) ![32 * k.val, 0] ![32, n]
    (Rect.inb₂ (by have := k.isLt; show 32 * k.val + 32 ≤ 512; omega) (by show 0 + n ≤ n; omega))

/-- Loading the rectangle is taking the rows. -/
theorem ld_stripe {Val : EltTy → Type} {e : EltTy} {n : ℕ} (X : (⟨2, ![512, n]⟩ : Shape).Idx → Val e) (k : Fin 16) :
    View.ld X (stripe n k) = part X k := by
  funext j
  show X ((stripe n k).emb j) = _
  unfold part
  congr 1
  funext a
  apply Fin.ext
  match a with
  | ⟨0, _⟩ => show 32 * k.val + 1 * (j 0).val = 32 * k.val + (j 0).val; omega
  | ⟨1, _⟩ => show 0 + 1 * (j 1).val = (j 1).val; omega

/-- A load at the rows, its offsets written another way, is taking the rows. -/
theorem readAt_stripe {sp : Space} {e : EltTy} {n : ℕ} (v : View sig .tc sp ⟨2, ![512, n]⟩ e) (X : v.ty.Contents (Elt F)) (k : Fin 16)
    (off : Fin 2 → ℕ) (h : off = ![32 * k.val, 0]) (inb : ∀ a, off a + (![32, n] : Fin 2 → ℕ) a ≤ (⟨2, ![512, n]⟩ : Shape).size a) :
    View.readAt (Elt F) v (Rect.unit (s := ⟨2, ![512, n]⟩) off ![32, n] inb).toLoadRect X = part (v.read (Elt F) X) k := by
  subst h
  exact (View.readAt_eq_ld ..).trans (ld_stripe _ k)

/-- A piece at the rows, its offsets written another way. -/
theorem piece_stripe {e : EltTy} {n : ℕ} (k : Fin 16)
    (off : Fin 2 → ℕ) (h : off = ![32 * k.val, 0]) (inb : ∀ a, off a + (![32, n] : Fin 2 → ℕ) a ≤ (⟨2, ![512, n]⟩ : Shape).size a)
    (P : (⟨2, ![32, n]⟩ : Shape).Idx → Elt F e) :
    (⟨Rect.unit (s := ⟨2, ![512, n]⟩) off ![32, n] inb, P⟩ : View.Piece (Elt F) ⟨2, ![512, n]⟩ e) = ⟨stripe n k, P⟩ := by
  subst h; rfl

/-- At a place of the rectangle the glued array is the part. -/
theorem glue_emb {α : Type} {n : ℕ} (G : Fin 16 → (⟨2, ![32, n]⟩ : Shape).Idx → α) (k : Fin 16) (j : (⟨2, ![32, n]⟩ : Shape).Idx) :
    glue G ((stripe n k).emb j) = G k j := by
  have hj : (j 0).val < 32 := (j 0).isLt
  have h0 : ((stripe n k).emb j 0).val = 32 * k.val + (j 0).val := by show 32 * k.val + 1 * (j 0).val = _; omega
  have h1 : ((stripe n k).emb j 1).val = (j 1).val := by show 0 + 1 * (j 1).val = _; omega
  unfold glue
  have hk : (⟨((stripe n k).emb j 0).val / 32, by rw [h0]; have := k.isLt; omega⟩ : Fin 16) = k := Fin.ext (by show _ / 32 = _; omega)
  have hi : (ix2 ⟨((stripe n k).emb j 0).val % 32, Nat.mod_lt _ (by decide)⟩ ((stripe n k).emb j 1) : (⟨2, ![32, n]⟩ : Shape).Idx) = j := by
    funext a
    apply Fin.ext
    match a with
    | ⟨0, _⟩ => show ((stripe n k).emb j 0).val % 32 = (j 0).val; omega
    | ⟨1, _⟩ => exact h1
  exact congrArg₂ G hk hi

/-- Every place lies in one of the sixteen rectangles. -/
theorem mem_stripe {n : ℕ} (y : (⟨2, ![512, n]⟩ : Shape).Idx) :
    y ∈ (stripe n ⟨(y 0).val / 32, by have : (y 0).val < 512 := (y 0).isLt; omega⟩).set := by
  rw [Rect.mem_set_unit]
  intro a
  match a with
  | ⟨0, _⟩ => show 32 * ((y 0).val / 32) ≤ (y 0).val ∧ (y 0).val < 32 * ((y 0).val / 32) + 32; omega
  | ⟨1, _⟩ => have : (y 1).val < n := (y 1).isLt; show 0 ≤ (y 1).val ∧ (y 1).val < 0 + n; omega

/-- A buffer written piece by piece, every piece one of the sixteen and all sixteen among them, reads as the glued array. -/
theorem read_writes_glue {sp : Space} {e : EltTy} {n : ℕ} (v : View sig .tc sp ⟨2, ![512, n]⟩ e) (f : v.ty.Contents (Elt F))
    (G : Fin 16 → (⟨2, ![32, n]⟩ : Shape).Idx → Elt F e) (L : List (View.Piece (Elt F) ⟨2, ![512, n]⟩ e))
    (hL : ∀ p ∈ L, ∃ k : Fin 16, p = ⟨stripe n k, G k⟩) (hc : ∀ k : Fin 16, ⟨stripe n k, G k⟩ ∈ L) :
    v.read (Elt F) (v.writes (Elt F) f L) = glue G := by
  funext y
  refine View.read_writes_apply_of_pieces v f (glue G) L ?_ y ⟨_, hc _, mem_stripe y⟩
  intro p hp x
  obtain ⟨k, rfl⟩ := hL p hp
  exact (glue_emb G k x).symm

/-! ## What one trip computes -/

/-- The exponent the first loop's search gives for each of 32 rows of the input, from the rows' largest magnitudes. -/
def xExpT (T : Vec F S32x8192 .bf16) : IVec S32x1 32 :=
  k0_pay29 (k0_pay6 T) (k0_pay26 (k0_pay15 T)) (k0_pay27 (k0_pay13 T) (k0_pay14 T) (k0_pay15 T) (k0_pay16 T)) (k0_pay28 (k0_pay15 T))
    (FloatOps.ofBits .f32 1199570944#32)

/-- The codes of 32 rows of the input. -/
def xCodesT (T : Vec F S32x8192 .bf16) : Vec F S32x8192 .fp8e4m3 := k0_pay32 (k0_pay5 T) (xExpT T) T

/-- The scales of 32 rows of the input. -/
def xScaleT (T : Vec F S32x8192 .bf16) : Vec F S32x1 .f32 := k0_pay31 (k0_pay5 T) (xExpT T)

/-- The exponent the second loop's search gives for each of 32 rows of the activations. -/
def hExpT (T : Vec F S32x3584 .f32) : IVec S32x1 32 :=
  k0_pay57 (k0_pay34 T) (k0_pay53 (k0_pay42 T) (FloatOps.ofBits .f32 1098907648#32))
    (k0_pay54 (k0_pay42 T) (k0_pay43 T) (FloatOps.ofBits .f32 1098907648#32)) (k0_pay55 (k0_pay42 T) (FloatOps.ofBits .f32 1098907648#32))
    (k0_pay56 (k0_pay42 T) (FloatOps.ofBits .f32 1098907648#32))

/-- The codes of 32 rows of the activations. -/
def hCodesT (T : Vec F S32x3584 .f32) : Vec F S32x3584 .fp8e4m3 := k0_pay4 (k0_pay33 T) (hExpT T) k0_pay58 T

/-- The scales of 32 rows of the activations. -/
def hScaleT (T : Vec F S32x3584 .f32) : Vec F S32x1 .f32 := k0_pay3 (k0_pay33 T) (hExpT T) k0_pay58

/-- The codes of a block of 512 rows of the input. -/
def xCodes (X : Vec F S512x8192 .bf16) : Vec F S512x8192 .fp8e4m3 := glue fun k => xCodesT (part X k)
/-- The scales of a block of 512 rows of the input. -/
def xScale (X : Vec F S512x8192 .bf16) : Vec F S512x1 .f32 := glue fun k => xScaleT (part X k)
/-- The codes of a block of 512 rows of the activations. -/
def hCodes (X : Vec F S512x3584 .f32) : Vec F S512x3584 .fp8e4m3 := glue fun k => hCodesT (part X k)
/-- The scales of a block of 512 rows of the activations. -/
def hScale (X : Vec F S512x3584 .f32) : Vec F S512x1 .f32 := glue fun k => hScaleT (part X k)

/-- Both loops make sixteen trips. -/
theorem trips1 : k0_t1_loop.trips = 16 := by decide +kernel
/-- The second loop makes sixteen steps. -/
theorem trips2 : k0_t2_loop.trips = 16 := by decide +kernel

/-! ## The loops -/

section t1
variable (c : Dev nD) (i : grid0.Coords) (arg2 : Memref sig .tc .vmem S512x8192 .bf16) (harg2 : arg2.IsWhole) (arg3 : Memref sig .tc .vmem S8192x512 .fp8e4m3) (harg3 : arg3.IsWhole) (arg4 : Memref sig .tc .vmem S8192x512 .fp8e4m3) (harg4 : arg4.IsWhole)
  (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole)
  (arg8 : Memref sig .tc .vmem S512x3584 .fp8e4m3) (harg8 : arg8.IsWhole) (arg9 : Memref sig .tc .vmem S512x8192 .fp8e4m3) (harg9 : arg9.IsWhole) (arg10 : Memref sig .tc .vmem S512x1 .f32) (harg10 : arg10.IsWhole)
  (arg11 : Memref sig .tc .vmem S512x3584 .f32) (harg11 : arg11.IsWhole)
  (h1 : k0_cond1 i = 1#1) (X2 : BufTy.Contents (Elt F) arg2.view.ty)

/-- One trip's pieces: the scales and the codes of the 32 rows it reads, each at those rows. -/
theorem trip_t1 (k : Fin k0_t1_loop.trips) :
    tripL_k0_t1 (F := F) Variants.none c none i arg2 harg2 arg3 harg3 arg4 harg4 arg5 harg5 arg6 harg6 arg7 harg7 arg8 harg8 arg9 harg9 arg10 harg10 arg11 harg11 h1 X2 k
      = ([⟨stripe 8192 (k.cast trips1), xCodesT (part (arg2.view.read (Elt F) X2) (k.cast trips1))⟩],
         [⟨stripe 1 (k.cast trips1), xScaleT (part (arg2.view.read (Elt F) X2) (k.cast trips1))⟩]) := by
  unfold tripL_k0_t1 trip_k0_t1; dsimp only; sl_unfold_run_names
  rw [readAt_stripe arg2.view X2 (k.cast trips1) _ (k0_off1_eq k),
    piece_stripe (n := 8192) (e := .fp8e4m3) (k.cast trips1) _ (k0_off1_eq k), piece_stripe (n := 1) (e := .f32) (k.cast trips1) _ (k0_off2_eq k)]
  rfl

/-- The pieces of the trips before the `n`-th are those of the parts below `n`. -/
theorem mem_pb_t1 : ∀ n : ℕ, n ≤ 16 →
    (∀ p, p ∈ (pb_k0_t1 (F := F) Variants.none c none i arg2 harg2 arg3 harg3 arg4 harg4 arg5 harg5 arg6 harg6 arg7 harg7 arg8 harg8 arg9 harg9 arg10 harg10 arg11 harg11 h1 X2 n).1 ↔ ∃ k : Fin 16, k.val < n ∧ p = ⟨stripe 8192 k, xCodesT (part (arg2.view.read (Elt F) X2) k)⟩)
    ∧ (∀ p, p ∈ (pb_k0_t1 (F := F) Variants.none c none i arg2 harg2 arg3 harg3 arg4 harg4 arg5 harg5 arg6 harg6 arg7 harg7 arg8 harg8 arg9 harg9 arg10 harg10 arg11 harg11 h1 X2 n).2 ↔ ∃ k : Fin 16, k.val < n ∧ p = ⟨stripe 1 k, xScaleT (part (arg2.view.read (Elt F) X2) k)⟩)
  | 0, _ => by
    constructor <;> intro p <;> constructor
    · intro h; exact absurd h List.not_mem_nil
    · rintro ⟨k, hk, _⟩; exact absurd hk (Nat.not_lt_zero _)
    · intro h; exact absurd h List.not_mem_nil
    · rintro ⟨k, hk, _⟩; exact absurd hk (Nat.not_lt_zero _)
  | n + 1, hn => by
    obtain ⟨ih1, ih2⟩ := mem_pb_t1 n (by omega)
    have hs := pb_k0_t1_succ (F := F) Variants.none c none i arg2 harg2 arg3 harg3 arg4 harg4 arg5 harg5 arg6 harg6 arg7 harg7 arg8 harg8 arg9 harg9 arg10 harg10 arg11 harg11 h1 X2 ⟨n, by rw [trips1]; omega⟩
    rw [trip_t1] at hs
    rw [show (pb_k0_t1 (F := F) Variants.none c none i arg2 harg2 arg3 harg3 arg4 harg4 arg5 harg5 arg6 harg6 arg7 harg7 arg8 harg8 arg9 harg9 arg10 harg10 arg11 harg11 h1 X2 (n + 1)) = _ from hs]
    have key : ∀ {e : EltTy} {s : Shape} (P : Fin 16 → View.Piece (Elt F) s e) (L : List (View.Piece (Elt F) s e)),
        (∀ p, p ∈ L ↔ ∃ k : Fin 16, k.val < n ∧ p = P k) →
        ∀ p, p ∈ [P ⟨n, by omega⟩] ++ L ↔ ∃ k : Fin 16, k.val < n + 1 ∧ p = P k := by
      intro e s P L h p
      rw [List.mem_append, List.mem_singleton, h]
      constructor
      · rintro (rfl | ⟨k, hk, rfl⟩)
        · exact ⟨⟨n, by omega⟩, Nat.lt_succ_self n, rfl⟩
        · exact ⟨k, by omega, rfl⟩
      · rintro ⟨k, hk, rfl⟩
        by_cases hkn : k.val = n
        · left; congr 1; exact Fin.ext hkn
        · right; exact ⟨k, by omega, rfl⟩
    exact ⟨key (fun k => ⟨stripe 8192 k, xCodesT (part (arg2.view.read (Elt F) X2) k)⟩) _ ih1,
      key (fun k => ⟨stripe 1 k, xScaleT (part (arg2.view.read (Elt F) X2) k)⟩) _ ih2⟩

/-- After the loop the first array it writes holds the values of all sixteen parts. -/
theorem read_fst_t1 (G : BufTy.Contents (Elt F) arg9.view.ty) :
    arg9.view.read (Elt F) (arg9.view.writes (Elt F) G (pb_k0_t1 (F := F) Variants.none c none i arg2 harg2 arg3 harg3 arg4 harg4 arg5 harg5 arg6 harg6 arg7 harg7 arg8 harg8 arg9 harg9 arg10 harg10 arg11 harg11 h1 X2 (Scf.trips k0_t1_loop.lb k0_t1_loop.ub k0_t1_loop.st)).1)
      = glue fun k => xCodesT (part (arg2.view.read (Elt F) X2) k) := by
  rw [show Scf.trips k0_t1_loop.lb k0_t1_loop.ub k0_t1_loop.st = 16 from trips1]
  have h := (mem_pb_t1 (F := F) c i arg2 harg2 arg3 harg3 arg4 harg4 arg5 harg5 arg6 harg6 arg7 harg7 arg8 harg8 arg9 harg9 arg10 harg10 arg11 harg11 h1 X2 16 le_rfl).1
  exact read_writes_glue _ _ _ _ (fun p hp => let ⟨k, _, e⟩ := (h p).mp hp; ⟨k, e⟩) fun k => (h _).mpr ⟨k, k.isLt, rfl⟩

/-- After the loop the second array it writes holds the values of all sixteen parts. -/
theorem read_snd_t1 (G : BufTy.Contents (Elt F) arg10.view.ty) :
    arg10.view.read (Elt F) (arg10.view.writes (Elt F) G (pb_k0_t1 (F := F) Variants.none c none i arg2 harg2 arg3 harg3 arg4 harg4 arg5 harg5 arg6 harg6 arg7 harg7 arg8 harg8 arg9 harg9 arg10 harg10 arg11 harg11 h1 X2 (Scf.trips k0_t1_loop.lb k0_t1_loop.ub k0_t1_loop.st)).2)
      = glue fun k => xScaleT (part (arg2.view.read (Elt F) X2) k) := by
  rw [show Scf.trips k0_t1_loop.lb k0_t1_loop.ub k0_t1_loop.st = 16 from trips1]
  have h := (mem_pb_t1 (F := F) c i arg2 harg2 arg3 harg3 arg4 harg4 arg5 harg5 arg6 harg6 arg7 harg7 arg8 harg8 arg9 harg9 arg10 harg10 arg11 harg11 h1 X2 16 le_rfl).2
  exact read_writes_glue _ _ _ _ (fun p hp => let ⟨k, _, e⟩ := (h p).mp hp; ⟨k, e⟩) fun k => (h _).mpr ⟨k, k.isLt, rfl⟩

end t1

section t2
variable (c : Dev nD) (i : grid0.Coords) (arg2 : Memref sig .tc .vmem S512x8192 .bf16) (harg2 : arg2.IsWhole) (arg3 : Memref sig .tc .vmem S8192x512 .fp8e4m3) (harg3 : arg3.IsWhole) (arg4 : Memref sig .tc .vmem S8192x512 .fp8e4m3) (harg4 : arg4.IsWhole)
  (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole)
  (arg8 : Memref sig .tc .vmem S512x3584 .fp8e4m3) (harg8 : arg8.IsWhole) (arg9 : Memref sig .tc .vmem S512x8192 .fp8e4m3) (harg9 : arg9.IsWhole) (arg10 : Memref sig .tc .vmem S512x1 .f32) (harg10 : arg10.IsWhole)
  (arg11 : Memref sig .tc .vmem S512x3584 .f32) (harg11 : arg11.IsWhole)
  (h2 : k0_cond2 i = 1#1) (X11 : BufTy.Contents (Elt F) arg11.view.ty)

/-- One trip's pieces: the scales and the codes of the 32 rows it reads, each at those rows. -/
theorem trip_t2 (k : Fin k0_t2_loop.trips) :
    tripL_k0_t2 (F := F) Variants.none c none i arg2 harg2 arg3 harg3 arg4 harg4 arg5 harg5 arg6 harg6 arg7 harg7 arg8 harg8 arg9 harg9 arg10 harg10 arg11 harg11 h2 X11 k
      = ([⟨stripe 1 (k.cast trips2), hScaleT (part (arg11.view.read (Elt F) X11) (k.cast trips2))⟩],
         [⟨stripe 3584 (k.cast trips2), hCodesT (part (arg11.view.read (Elt F) X11) (k.cast trips2))⟩]) := by
  unfold tripL_k0_t2 trip_k0_t2; dsimp only; sl_unfold_run_names
  rw [readAt_stripe arg11.view X11 (k.cast trips2) _ (k0_off4_eq k),
    piece_stripe (n := 1) (e := .f32) (k.cast trips2) _ (k0_off5_eq k), piece_stripe (n := 3584) (e := .fp8e4m3) (k.cast trips2) _ (k0_off4_eq k)]
  rfl

/-- The pieces of the trips before the `n`-th are those of the parts below `n`. -/
theorem mem_pb_t2 : ∀ n : ℕ, n ≤ 16 →
    (∀ p, p ∈ (pb_k0_t2 (F := F) Variants.none c none i arg2 harg2 arg3 harg3 arg4 harg4 arg5 harg5 arg6 harg6 arg7 harg7 arg8 harg8 arg9 harg9 arg10 harg10 arg11 harg11 h2 X11 n).1 ↔ ∃ k : Fin 16, k.val < n ∧ p = ⟨stripe 1 k, hScaleT (part (arg11.view.read (Elt F) X11) k)⟩)
    ∧ (∀ p, p ∈ (pb_k0_t2 (F := F) Variants.none c none i arg2 harg2 arg3 harg3 arg4 harg4 arg5 harg5 arg6 harg6 arg7 harg7 arg8 harg8 arg9 harg9 arg10 harg10 arg11 harg11 h2 X11 n).2 ↔ ∃ k : Fin 16, k.val < n ∧ p = ⟨stripe 3584 k, hCodesT (part (arg11.view.read (Elt F) X11) k)⟩)
  | 0, _ => by
    constructor <;> intro p <;> constructor
    · intro h; exact absurd h List.not_mem_nil
    · rintro ⟨k, hk, _⟩; exact absurd hk (Nat.not_lt_zero _)
    · intro h; exact absurd h List.not_mem_nil
    · rintro ⟨k, hk, _⟩; exact absurd hk (Nat.not_lt_zero _)
  | n + 1, hn => by
    obtain ⟨ih1, ih2⟩ := mem_pb_t2 n (by omega)
    have hs := pb_k0_t2_succ (F := F) Variants.none c none i arg2 harg2 arg3 harg3 arg4 harg4 arg5 harg5 arg6 harg6 arg7 harg7 arg8 harg8 arg9 harg9 arg10 harg10 arg11 harg11 h2 X11 ⟨n, by rw [trips2]; omega⟩
    rw [trip_t2] at hs
    rw [show (pb_k0_t2 (F := F) Variants.none c none i arg2 harg2 arg3 harg3 arg4 harg4 arg5 harg5 arg6 harg6 arg7 harg7 arg8 harg8 arg9 harg9 arg10 harg10 arg11 harg11 h2 X11 (n + 1)) = _ from hs]
    have key : ∀ {e : EltTy} {s : Shape} (P : Fin 16 → View.Piece (Elt F) s e) (L : List (View.Piece (Elt F) s e)),
        (∀ p, p ∈ L ↔ ∃ k : Fin 16, k.val < n ∧ p = P k) →
        ∀ p, p ∈ [P ⟨n, by omega⟩] ++ L ↔ ∃ k : Fin 16, k.val < n + 1 ∧ p = P k := by
      intro e s P L h p
      rw [List.mem_append, List.mem_singleton, h]
      constructor
      · rintro (rfl | ⟨k, hk, rfl⟩)
        · exact ⟨⟨n, by omega⟩, Nat.lt_succ_self n, rfl⟩
        · exact ⟨k, by omega, rfl⟩
      · rintro ⟨k, hk, rfl⟩
        by_cases hkn : k.val = n
        · left; congr 1; exact Fin.ext hkn
        · right; exact ⟨k, by omega, rfl⟩
    exact ⟨key (fun k => ⟨stripe 1 k, hScaleT (part (arg11.view.read (Elt F) X11) k)⟩) _ ih1,
      key (fun k => ⟨stripe 3584 k, hCodesT (part (arg11.view.read (Elt F) X11) k)⟩) _ ih2⟩

/-- After the loop the first array it writes holds the values of all sixteen parts. -/
theorem read_fst_t2 (G : BufTy.Contents (Elt F) arg7.view.ty) :
    arg7.view.read (Elt F) (arg7.view.writes (Elt F) G (pb_k0_t2 (F := F) Variants.none c none i arg2 harg2 arg3 harg3 arg4 harg4 arg5 harg5 arg6 harg6 arg7 harg7 arg8 harg8 arg9 harg9 arg10 harg10 arg11 harg11 h2 X11 (Scf.trips k0_t2_loop.lb k0_t2_loop.ub k0_t2_loop.st)).1)
      = glue fun k => hScaleT (part (arg11.view.read (Elt F) X11) k) := by
  rw [show Scf.trips k0_t2_loop.lb k0_t2_loop.ub k0_t2_loop.st = 16 from trips2]
  have h := (mem_pb_t2 (F := F) c i arg2 harg2 arg3 harg3 arg4 harg4 arg5 harg5 arg6 harg6 arg7 harg7 arg8 harg8 arg9 harg9 arg10 harg10 arg11 harg11 h2 X11 16 le_rfl).1
  exact read_writes_glue _ _ _ _ (fun p hp => let ⟨k, _, e⟩ := (h p).mp hp; ⟨k, e⟩) fun k => (h _).mpr ⟨k, k.isLt, rfl⟩

/-- After the loop the second array it writes holds the values of all sixteen parts. -/
theorem read_snd_t2 (G : BufTy.Contents (Elt F) arg8.view.ty) :
    arg8.view.read (Elt F) (arg8.view.writes (Elt F) G (pb_k0_t2 (F := F) Variants.none c none i arg2 harg2 arg3 harg3 arg4 harg4 arg5 harg5 arg6 harg6 arg7 harg7 arg8 harg8 arg9 harg9 arg10 harg10 arg11 harg11 h2 X11 (Scf.trips k0_t2_loop.lb k0_t2_loop.ub k0_t2_loop.st)).2)
      = glue fun k => hCodesT (part (arg11.view.read (Elt F) X11) k) := by
  rw [show Scf.trips k0_t2_loop.lb k0_t2_loop.ub k0_t2_loop.st = 16 from trips2]
  have h := (mem_pb_t2 (F := F) c i arg2 harg2 arg3 harg3 arg4 harg4 arg5 harg5 arg6 harg6 arg7 harg7 arg8 harg8 arg9 harg9 arg10 harg10 arg11 harg11 h2 X11 16 le_rfl).2
  exact read_writes_glue _ _ _ _ (fun p hp => let ⟨k, _, e⟩ := (h p).mp hp; ⟨k, e⟩) fun k => (h _).mpr ⟨k, k.isLt, rfl⟩

end t2

end Cert.KernelIdeal.Tiles

end
-- ==== Proof.Body.lean ====
/-
  What the kernel's body does at one grid point, in each of its three cases: the first point of a row block (it quantises
  the input rows, then makes a tile of activations), a middle point (a tile of activations), the last point (a tile, then it
  quantises the activations). Each theorem is stated over any staging memrefs and any contents.
-/
module

public import proofs.«01_k».proof.Proof.Tiles
public import Idealize.ShloMosaic.Lib.Pipeline.Value
public import Idealize.ShloMosaic.Lib.Tactic

@[expose] public section

set_option maxRecDepth 16384

noncomputable section

namespace Cert.KernelIdeal.Body

open Idealize.ShloMosaic Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.Tiles

variable {F : FTy → Type} [FloatOps F]

local notation "𝕄" => MT nD τ sig Unit (Elt F) ℕ (UR sig nD τ) ℕ

/-- The zero offset of a matrix. -/
theorem hz : (![0, 0] : Fin 2 → Nat) = fun _ => 0 := funext fun a => by fin_cases a <;> rfl

/-- The activations `Z` of a row block with the tile of columns `512j` to `512j+511` replaced by `P`. -/
def put {α : Type} (j : ℕ) (Z : S512x3584.Idx → α) (P : S512x512.Idx → α) : S512x3584.Idx → α :=
  fun y => if (y 1).val / 512 = j then P (ix2 (y 0) ⟨(y 1).val % 512, Nat.mod_lt _ (by decide)⟩) else Z y

/-- The one store a point makes into the activations puts its tile. -/
theorem read_put {sp : Space} (v : View sig .tc sp S512x3584 .f32) (f : v.ty.Contents (Elt F)) (i : grid0.Coords)
    (inb : ∀ a, k0_off3 i a + S512x512.size a ≤ S512x3584.size a) (P : Vec F S512x512 .f32) :
    v.read (Elt F) (v.writes (Elt F) f [⟨Rect.unit (s := S512x3584) (k0_off3 i) S512x512.size inb, P⟩])
      = put (i 1).val (v.read (Elt F) f) P := by
  have ho := k0_off3_eq i
  generalize k0_off3 i = o at ho inb
  subst ho
  funext y
  have h0 : (y 0).val < 512 := (y 0).isLt
  have h1 : (y 1).val < 3584 := (y 1).isLt
  unfold put
  by_cases hy : (y 1).val / 512 = (i 1).val
  · rw [if_pos hy]
    have he : y = (Rect.unit (s := S512x3584) ![0, 512 * (i 1).val] S512x512.size inb).emb
        (ix2 (y 0) ⟨(y 1).val % 512, Nat.mod_lt _ (by decide)⟩) := by
      funext a
      apply Fin.ext
      match a with
      | ⟨0, _⟩ => show (y 0).val = 0 + 1 * (y 0).val; omega
      | ⟨1, _⟩ => show (y 1).val = 512 * (i 1).val + 1 * ((y 1).val % 512); omega
    exact (congrArg _ he).trans (View.read_writes_cons_emb ..)
  · rw [if_neg hy]
    refine View.read_writes_apply_of_forall_not_mem v f y _ fun p hp => ?_
    rw [List.mem_singleton.mp hp]
    intro hm
    have := (Rect.mem_set_unit (inb := inb).mp hm) 1
    have h2 : 512 * (i 1).val ≤ (y 1).val ∧ (y 1).val < 512 * (i 1).val + 512 := this
    omega

set_option maxHeartbeats 1000000 in
/-- The first point of a row block: the input's codes and scales are made, and a tile of activations from them. -/
theorem first (c : Dev nD) (E : Set ℕ) (i : grid0.Coords) (arg2 : Memref sig .tc .vmem S512x8192 .bf16) (harg2 : arg2.IsWhole) (arg3 : Memref sig .tc .vmem S8192x512 .fp8e4m3) (harg3 : arg3.IsWhole) (arg4 : Memref sig .tc .vmem S8192x512 .fp8e4m3) (harg4 : arg4.IsWhole)
  (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole)
  (arg8 : Memref sig .tc .vmem S512x3584 .fp8e4m3) (harg8 : arg8.IsWhole) (arg9 : Memref sig .tc .vmem S512x8192 .fp8e4m3) (harg9 : arg9.IsWhole) (arg10 : Memref sig .tc .vmem S512x1 .f32) (harg10 : arg10.IsWhole)
  (arg11 : Memref sig .tc .vmem S512x3584 .f32) (harg11 : arg11.IsWhole)
  (X : Vec F S512x8192 .bf16) (Wg Wu : Vec F S8192x512 .fp8e4m3) (Sg Su : Vec F S1x512 .f32) (Z : Vec F S512x3584 .f32)
  (K : PUnit → sProp 𝕄)
  (h1 : k0_cond1 i = 1#1) (h2 : ¬ k0_cond2 i = 1#1) :
    iprop(owns (c : Thread nD τ) arg2 fullShare X ∗ owns (c : Thread nD τ) arg3 fullShare Wg ∗ owns (c : Thread nD τ) arg4 fullShare Wu ∗ owns (c : Thread nD τ) arg5 fullShare Sg ∗ owns (c : Thread nD τ) arg6 fullShare Su ∗ (∃ d, owns (c : Thread nD τ) arg9 fullShare d) ∗ (∃ d, owns (c : Thread nD τ) arg10 fullShare d) ∗ owns (c : Thread nD τ) arg11 fullShare Z
        ∗ (iprop(owns (c : Thread nD τ) arg2 fullShare X ∗ owns (c : Thread nD τ) arg3 fullShare Wg ∗ owns (c : Thread nD τ) arg4 fullShare Wu ∗ owns (c : Thread nD τ) arg5 fullShare Sg ∗ owns (c : Thread nD τ) arg6 fullShare Su ∗ owns (c : Thread nD τ) arg9 fullShare (xCodes X) ∗ owns (c : Thread nD τ) arg10 fullShare (xScale X) ∗ owns (c : Thread nD τ) arg11 fullShare (put (i 1).val Z (k0_pay1 (xCodes X) (xScale X) Wg Wu Sg Su))) -∗ K ⟨⟩))
      ⊢ wp frame (wpE (defs₀ (F := F)) Variants.none (c : Thread nD τ) none) E (cc0_swiglu_up_fp8 i arg2 harg2 arg3 harg3 arg4 harg4 arg5 harg5 arg6 harg6 arg7 harg7 arg8 harg8 arg9 harg9 arg10 harg10 arg11 harg11) K := by
  simp only [cc0_swiglu_up_fp8_eq_skeleton]; unfold cc0_swiglu_up_fp8_skel
  unfold owns
  iintro ⟨⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%f11, %hf11, H11⟩, Hk⟩
  subst hf2 hf3 hf4 hf5 hf6 hf11
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists _; isplitr
    swap; · iexact H9
    ipureintro
    exact read_fst_t1 ..
  isplitl [H10]
  · iexists _; isplitr
    swap; · iexact H10
    ipureintro
    exact read_snd_t1 ..
  iexists _; isplitr
  swap; · iexact H11
  ipureintro
  sl_unfold_run_names; rw [read_put]; simp only [View.readAt_eq_ld, View.ld_unit_zero (S := S512x8192) hz, View.ld_unit_zero (S := S512x1) hz, View.ld_unit_zero (S := S8192x512) hz, View.ld_unit_zero (S := S1x512) hz]; rw [read_fst_t1, read_snd_t1]; rfl

set_option maxHeartbeats 1000000 in
/-- A middle point: a tile of activations from the codes and scales found. -/
theorem middle (c : Dev nD) (E : Set ℕ) (i : grid0.Coords) (arg2 : Memref sig .tc .vmem S512x8192 .bf16) (harg2 : arg2.IsWhole) (arg3 : Memref sig .tc .vmem S8192x512 .fp8e4m3) (harg3 : arg3.IsWhole) (arg4 : Memref sig .tc .vmem S8192x512 .fp8e4m3) (harg4 : arg4.IsWhole)
  (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole)
  (arg8 : Memref sig .tc .vmem S512x3584 .fp8e4m3) (harg8 : arg8.IsWhole) (arg9 : Memref sig .tc .vmem S512x8192 .fp8e4m3) (harg9 : arg9.IsWhole) (arg10 : Memref sig .tc .vmem S512x1 .f32) (harg10 : arg10.IsWhole)
  (arg11 : Memref sig .tc .vmem S512x3584 .f32) (harg11 : arg11.IsWhole)
  (X : Vec F S512x8192 .bf16) (Wg Wu : Vec F S8192x512 .fp8e4m3) (Sg Su : Vec F S1x512 .f32) (Z : Vec F S512x3584 .f32)
  (K : PUnit → sProp 𝕄)
  (Cx : Vec F S512x8192 .fp8e4m3) (Sx : Vec F S512x1 .f32) (h1 : ¬ k0_cond1 i = 1#1) (h2 : ¬ k0_cond2 i = 1#1) :
    iprop(owns (c : Thread nD τ) arg2 fullShare X ∗ owns (c : Thread nD τ) arg3 fullShare Wg ∗ owns (c : Thread nD τ) arg4 fullShare Wu ∗ owns (c : Thread nD τ) arg5 fullShare Sg ∗ owns (c : Thread nD τ) arg6 fullShare Su ∗ owns (c : Thread nD τ) arg9 fullShare Cx ∗ owns (c : Thread nD τ) arg10 fullShare Sx ∗ owns (c : Thread nD τ) arg11 fullShare Z
        ∗ (iprop(owns (c : Thread nD τ) arg2 fullShare X ∗ owns (c : Thread nD τ) arg3 fullShare Wg ∗ owns (c : Thread nD τ) arg4 fullShare Wu ∗ owns (c : Thread nD τ) arg5 fullShare Sg ∗ owns (c : Thread nD τ) arg6 fullShare Su ∗ owns (c : Thread nD τ) arg9 fullShare Cx ∗ owns (c : Thread nD τ) arg10 fullShare Sx ∗ owns (c : Thread nD τ) arg11 fullShare (put (i 1).val Z (k0_pay1 Cx Sx Wg Wu Sg Su))) -∗ K ⟨⟩))
      ⊢ wp frame (wpE (defs₀ (F := F)) Variants.none (c : Thread nD τ) none) E (cc0_swiglu_up_fp8 i arg2 harg2 arg3 harg3 arg4 harg4 arg5 harg5 arg6 harg6 arg7 harg7 arg8 harg8 arg9 harg9 arg10 harg10 arg11 harg11) K := by
  simp only [cc0_swiglu_up_fp8_eq_skeleton]; unfold cc0_swiglu_up_fp8_skel
  unfold owns
  iintro ⟨⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, ⟨%f11, %hf11, H11⟩, Hk⟩
  subst hf2 hf3 hf4 hf5 hf6 hf9 hf10 hf11
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  isplitl [H10]
  · iexists f10; isplitr; · ipureintro; rfl
    iexact H10
  iexists _; isplitr
  swap; · iexact H11
  ipureintro
  rw [read_put]; simp only [View.readAt_eq_ld, View.ld_unit_zero (S := S512x8192) hz, View.ld_unit_zero (S := S512x1) hz, View.ld_unit_zero (S := S8192x512) hz, View.ld_unit_zero (S := S1x512) hz]

set_option maxHeartbeats 1000000 in
/-- The last point: a tile of activations, and then the activations' codes and scales. -/
theorem last (c : Dev nD) (E : Set ℕ) (i : grid0.Coords) (arg2 : Memref sig .tc .vmem S512x8192 .bf16) (harg2 : arg2.IsWhole) (arg3 : Memref sig .tc .vmem S8192x512 .fp8e4m3) (harg3 : arg3.IsWhole) (arg4 : Memref sig .tc .vmem S8192x512 .fp8e4m3) (harg4 : arg4.IsWhole)
  (arg5 : Memref sig .tc .vmem S1x512 .f32) (harg5 : arg5.IsWhole) (arg6 : Memref sig .tc .vmem S1x512 .f32) (harg6 : arg6.IsWhole) (arg7 : Memref sig .tc .vmem S512x1 .f32) (harg7 : arg7.IsWhole)
  (arg8 : Memref sig .tc .vmem S512x3584 .fp8e4m3) (harg8 : arg8.IsWhole) (arg9 : Memref sig .tc .vmem S512x8192 .fp8e4m3) (harg9 : arg9.IsWhole) (arg10 : Memref sig .tc .vmem S512x1 .f32) (harg10 : arg10.IsWhole)
  (arg11 : Memref sig .tc .vmem S512x3584 .f32) (harg11 : arg11.IsWhole)
  (X : Vec F S512x8192 .bf16) (Wg Wu : Vec F S8192x512 .fp8e4m3) (Sg Su : Vec F S1x512 .f32) (Z : Vec F S512x3584 .f32)
  (K : PUnit → sProp 𝕄)
  (Cx : Vec F S512x8192 .fp8e4m3) (Sx : Vec F S512x1 .f32) (h1 : ¬ k0_cond1 i = 1#1) (h2 : k0_cond2 i = 1#1) :
    iprop(owns (c : Thread nD τ) arg2 fullShare X ∗ owns (c : Thread nD τ) arg3 fullShare Wg ∗ owns (c : Thread nD τ) arg4 fullShare Wu ∗ owns (c : Thread nD τ) arg5 fullShare Sg ∗ owns (c : Thread nD τ) arg6 fullShare Su ∗ (∃ d, owns (c : Thread nD τ) arg7 fullShare d) ∗ (∃ d, owns (c : Thread nD τ) arg8 fullShare d) ∗ owns (c : Thread nD τ) arg9 fullShare Cx ∗ owns (c : Thread nD τ) arg10 fullShare Sx ∗ owns (c : Thread nD τ) arg11 fullShare Z
        ∗ (iprop(owns (c : Thread nD τ) arg2 fullShare X ∗ owns (c : Thread nD τ) arg3 fullShare Wg ∗ owns (c : Thread nD τ) arg4 fullShare Wu ∗ owns (c : Thread nD τ) arg5 fullShare Sg ∗ owns (c : Thread nD τ) arg6 fullShare Su ∗ owns (c : Thread nD τ) arg7 fullShare (hScale (put (i 1).val Z (k0_pay1 Cx Sx Wg Wu Sg Su))) ∗ owns (c : Thread nD τ) arg8 fullShare (hCodes (put (i 1).val Z (k0_pay1 Cx Sx Wg Wu Sg Su))) ∗ owns (c : Thread nD τ) arg9 fullShare Cx ∗ owns (c : Thread nD τ) arg10 fullShare Sx ∗ owns (c : Thread nD τ) arg11 fullShare (put (i 1).val Z (k0_pay1 Cx Sx Wg Wu Sg Su))) -∗ K ⟨⟩))
      ⊢ wp frame (wpE (defs₀ (F := F)) Variants.none (c : Thread nD τ) none) E (cc0_swiglu_up_fp8 i arg2 harg2 arg3 harg3 arg4 harg4 arg5 harg5 arg6 harg6 arg7 harg7 arg8 harg8 arg9 harg9 arg10 harg10 arg11 harg11) K := by
  simp only [cc0_swiglu_up_fp8_eq_skeleton]; unfold cc0_swiglu_up_fp8_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, Hk⟩
  subst hf2 hf3 hf4 hf5 hf6 hf9 hf10 hf11
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_fst_t2, read_put]; simp only [View.readAt_eq_ld, View.ld_unit_zero (S := S512x8192) hz, View.ld_unit_zero (S := S512x1) hz, View.ld_unit_zero (S := S8192x512) hz, View.ld_unit_zero (S := S1x512) hz]; rfl
  isplitl [H8]
  · iexists _; isplitr
    swap; · iexact H8
    ipureintro
    rw [read_snd_t2, read_put]; simp only [View.readAt_eq_ld, View.ld_unit_zero (S := S512x8192) hz, View.ld_unit_zero (S := S512x1) hz, View.ld_unit_zero (S := S8192x512) hz, View.ld_unit_zero (S := S1x512) hz]; rfl
  isplitl [H9]
  · iexists f9; isplitr; · ipureintro; rfl
    iexact H9
  isplitl [H10]
  · iexists f10; isplitr; · ipureintro; rfl
    iexact H10
  iexists _; isplitr
  swap; · iexact H11
  ipureintro
  rw [read_put]; simp only [View.readAt_eq_ld, View.ld_unit_zero (S := S512x8192) hz, View.ld_unit_zero (S := S512x1) hz, View.ld_unit_zero (S := S8192x512) hz, View.ld_unit_zero (S := S1x512) hz]

end Cert.KernelIdeal.Body

end
-- ==== Proof.Data.lean ====
/-
  The kernel's whole run: what every window's staging buffer holds after every grid point, the body obligation, the launch.

  Point `t` is block `t / 7` of 512 rows and tile `t % 7` of 512 columns of activations. The tile it makes is `hTile`; the
  seven tiles of a row block are `hBlock`. The scratch buffer carries the activations from point to point: before point
  `t` its columns below `512 * (t % 7)` are those of `hBlock` (`Held`). The codes and scales of the input are written at the
  first point of a row block and stay in their buffers until the last, where they are written back.
-/
module

public import Idealize.ShloMosaic.Lib.Claim
public import proofs.«01_k».proof.Proof.Body
public import Idealize.ShloMosaic.Lib.Pipeline.FrameSuffix

@[expose] public section

set_option maxRecDepth 16384

noncomputable section

namespace Cert.KernelIdeal.Data

open Idealize.ShloMosaic Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.Tiles Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points compute -/

/-- The tile of activations point `t` makes. -/
def hTile (c : Dev nD) (t : Fin cfg0.N) : Vec F S512x512 .f32 :=
  k0_pay1 (xCodes (iblk m c 0 t)) (xScale (iblk m c 0 t)) (iblk m c 1 t) (iblk m c 2 t) (iblk m c 3 t) (iblk m c 4 t)

/-- Point `s` of the row block of point `t`. -/
def pt (t : Fin cfg0.N) (s : Fin 7) : Fin cfg0.N :=
  ⟨7 * (t.val / 7) + s.val, by have := t.isLt; have h : cfg0.N = 42 := N_0; have := s.isLt; omega⟩

/-- The activations of the row block of point `t`: seven tiles side by side. -/
def hBlock (c : Dev nD) (t : Fin cfg0.N) : Vec F S512x3584 .f32 := fun y =>
  hTile m c (pt t ⟨(y 1).val / 512, by have : (y 1).val < 3584 := (y 1).isLt; omega⟩) (ix2 (y 0) ⟨(y 1).val % 512, Nat.mod_lt _ (by decide)⟩)

/-- Before point `n` the columns of the points of its row block before it hold their activations. -/
def Held (c : Dev nD) (n : ℕ) (Z : Vec F S512x3584 .f32) : Prop :=
  ∀ (h : n < cfg0.N) (y : S512x3584.Idx), (y 1).val < 512 * (n % 7) → Z y = hBlock m c ⟨n, h⟩ y

/-- At the first point of a row block nothing is asked. -/
theorem Held.zero (c : Dev nD) (n : ℕ) (h : n % 7 = 0) (Z : Vec F S512x3584 .f32) : Held m c n Z := by
  intro _ y hy; rw [h] at hy; exact absurd hy (Nat.not_lt_zero _)

/-- The second grid coordinate of point `t`. -/
theorem coord1 : ∀ t : Fin cfg0.N, ((grid0.coords t) 1).val = t.val % 7 := by decide +kernel
/-- The first test of the body holds at the first column step. -/
theorem cond1_iff : ∀ t : Fin cfg0.N, k0_cond1 (grid0.coords t) = 1#1 ↔ t.val % 7 = 0 := by decide +kernel
/-- The second holds at the last column step. -/
theorem cond2_iff : ∀ t : Fin cfg0.N, k0_cond2 (grid0.coords t) = 1#1 ↔ t.val % 7 = 6 := by decide +kernel

/-- Two points of one row block have the same activations. -/
theorem hBlock_congr (c : Dev nD) (t t' : Fin cfg0.N) (h : t.val / 7 = t'.val / 7) : hBlock m c t = hBlock m c t' := by
  unfold hBlock pt; simp only [h]

/-- After a point's store the columns up to and with its own hold their activations. -/
theorem put_held (c : Dev nD) (t : Fin cfg0.N) (Z : Vec F S512x3584 .f32) (hZ : Held m c t.val Z) (y : S512x3584.Idx)
    (hy : (y 1).val < 512 * (t.val % 7 + 1)) :
    put ((grid0.coords t) 1).val Z (hTile m c t) y = hBlock m c t y := by
  unfold put
  rw [coord1]
  by_cases h : (y 1).val / 512 = t.val % 7
  · rw [if_pos h]
    unfold hBlock
    have : pt t ⟨(y 1).val / 512, by have : (y 1).val < 3584 := (y 1).isLt; omega⟩ = t := by
      apply Fin.ext; show 7 * (t.val / 7) + (y 1).val / 512 = t.val; omega
    rw [this]
  · rw [if_neg h]
    exact hZ t.isLt y (by omega)

/-- So the scratch is as the next point wants it. -/
theorem put_held_succ (c : Dev nD) (t : Fin cfg0.N) (Z : Vec F S512x3584 .f32) (hZ : Held m c t.val Z) :
    Held m c (t.val + 1) (put ((grid0.coords t) 1).val Z (hTile m c t)) := by
  by_cases h6 : t.val % 7 = 6
  · exact Held.zero m c _ (by omega) _
  · intro hn y hy
    rw [put_held m c t Z hZ y (by omega)]
    exact congrFun (hBlock_congr m c _ _ (by show t.val / 7 = (t.val + 1) / 7; omega)) y

/-- After the last point's store the scratch is the whole block of activations. -/
theorem put_last (c : Dev nD) (t : Fin cfg0.N) (h6 : t.val % 7 = 6) (Z : Vec F S512x3584 .f32) (hZ : Held m c t.val Z) :
    put ((grid0.coords t) 1).val Z (hTile m c t) = hBlock m c t := by
  funext y
  exact put_held m c t Z hZ y (by have : (y 1).val < 3584 := (y 1).isLt; omega)

/-! ## The pipeline's proof data -/

/-- What the scratch buffer and the generator register hold before point `n`. -/
def Φ (c : Dev nD) (n : ℕ) : sProp 𝕄 :=
  iprop((∃ Z, ⌜Held m c n Z⌝ ∗ owns (c : Thread nD τ) (Memref.whole cc0_scratch0) fullShare Z) ∗ ∃ r, prngReg c r)

/-- The proof data: the arrays as the region finds them; after the body at point `t` each input's buffer at its block, the
    activations' scale and codes those of the row block, the input's codes and scale those of the block of rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hScale (hBlock m c t)
    | ⟨6, _⟩ => hCodes (hBlock m c t)
    | ⟨7, _⟩ => xCodes (iblk m c 0 t)
    | ⟨8, _⟩ => xScale (iblk m c 0 t)
  Φ n := Φ m c n.val
  q w := Pipeline.shareOf spec0 w
  owed _ := 0

/-- Each window works on its array as the region finds it. -/
theorem A_eq (c : Dev nD) (w : Fin cfg0.W) : (dats m 0 c).A w = V m c (Pipeline.arrRef spec0 w) := by
  dsimp only [dats]

/-- Input window 0 leaves the body with its block, unchanged. -/
theorem after_0 (c : Dev nD) (t : Fin cfg0.N) : (dats m 0 c).after 0 t = iblk m c 0 t := by dsimp only [dats]
/-- Input window 1 leaves the body with its block, unchanged. -/
theorem after_1 (c : Dev nD) (t : Fin cfg0.N) : (dats m 0 c).after 1 t = iblk m c 1 t := by dsimp only [dats]
/-- Input window 2 leaves the body with its block, unchanged. -/
theorem after_2 (c : Dev nD) (t : Fin cfg0.N) : (dats m 0 c).after 2 t = iblk m c 2 t := by dsimp only [dats]
/-- Input window 3 leaves the body with its block, unchanged. -/
theorem after_3 (c : Dev nD) (t : Fin cfg0.N) : (dats m 0 c).after 3 t = iblk m c 3 t := by dsimp only [dats]
/-- Input window 4 leaves the body with its block, unchanged. -/
theorem after_4 (c : Dev nD) (t : Fin cfg0.N) : (dats m 0 c).after 4 t = iblk m c 4 t := by dsimp only [dats]
/-- Window 5 leaves with the scales of the row block of activations. -/
theorem after_5 (c : Dev nD) (t : Fin cfg0.N) : (dats m 0 c).after 5 t = hScale (hBlock m c t) := by dsimp only [dats]
/-- Window 6 leaves with their codes. -/
theorem after_6 (c : Dev nD) (t : Fin cfg0.N) : (dats m 0 c).after 6 t = hCodes (hBlock m c t) := by dsimp only [dats]
/-- Window 7 leaves with the codes of the row block. -/
theorem after_7 (c : Dev nD) (t : Fin cfg0.N) : (dats m 0 c).after 7 t = xCodes (iblk m c 0 t) := by dsimp only [dats]
/-- Window 8 leaves with their scales. -/
theorem after_8 (c : Dev nD) (t : Fin cfg0.N) : (dats m 0 c).after 8 t = xScale (iblk m c 0 t) := by dsimp only [dats]

/-- The body finds in input window 0 its block. -/
theorem before_0 (c : Dev nD) (t : Fin cfg0.N) (d) : (dats m 0 c).before 0 t d = iblk m c 0 t :=
  before0_0_of m (dats m 0 c) (A_eq m c 0) (after_0 m c) t d
/-- The body finds in input window 1 its block. -/
theorem before_1 (c : Dev nD) (t : Fin cfg0.N) (d) : (dats m 0 c).before 1 t d = iblk m c 1 t :=
  before0_1_of m (dats m 0 c) (A_eq m c 1) (after_1 m c) t d
/-- The body finds in input window 2 its block. -/
theorem before_2 (c : Dev nD) (t : Fin cfg0.N) (d) : (dats m 0 c).before 2 t d = iblk m c 2 t :=
  before0_2_of m (dats m 0 c) (A_eq m c 2) (after_2 m c) t d
/-- The body finds in input window 3 its block. -/
theorem before_3 (c : Dev nD) (t : Fin cfg0.N) (d) : (dats m 0 c).before 3 t d = iblk m c 3 t :=
  before0_3_of m (dats m 0 c) (A_eq m c 3) (after_3 m c) t d
/-- The body finds in input window 4 its block. -/
theorem before_4 (c : Dev nD) (t : Fin cfg0.N) (d) : (dats m 0 c).before 4 t d = iblk m c 4 t :=
  before0_4_of m (dats m 0 c) (A_eq m c 4) (after_4 m c) t d

/-- The block of rows does not change within a row block. -/
theorem iblk0_pred (c : Dev nD) (t : Fin cfg0.N) (h : t.val % 7 ≠ 0) :
    iblk m c 0 ⟨t.val - 1, Nat.lt_of_le_of_lt (Nat.sub_le _ _) t.isLt⟩ = iblk m c 0 t := by
  have hf : (cfg0.win 0).fetch t = false := by
    rw [← Bool.not_eq_true, fetch0_0]; exact h
  have h0 : t.val ≠ 0 := by intro e; rw [e] at h; exact h rfl
  have e := (dats m 0 c).before_of_pos 0 t h0 hf (iblk m c 0 t)
  rw [before_0, (cfg0.win 0).flush_in rfl, if_neg Bool.false_ne_true] at e
  exact (after_0 m c _).symm.trans e.symm

/-- An output written at the first point of a row block only, and written back at the last: from the second point of the row
    block on its buffer holds what the first point left there. -/
theorem before_kept (c : Dev nD) (w : Fin cfg0.W) (hout : (cfg0.win w).isOut = true)
    (hflush : ∀ t : Fin cfg0.N, (cfg0.win w).flush t = true ↔ t.val % 7 = 6)
    (hidle : ∀ t : Fin cfg0.N, cfg0.idle w (cfg0.grid.coords t) = !(k0_cond1 (grid0.coords t) == 1#1))
    (hkept : ∀ t d, (dats m 0 c).kept w t d = (dats m 0 c).after w t)
    (hsame : ∀ t : Fin cfg0.N, t.val % 7 ≠ 0 →
      (dats m 0 c).after w ⟨t.val - 1, Nat.lt_of_le_of_lt (Nat.sub_le _ _) t.isLt⟩ = (dats m 0 c).after w t) :
    ∀ (t : Fin cfg0.N), t.val % 7 ≠ 0 → ∀ d, (dats m 0 c).before w t d = (dats m 0 c).after w t := by
  intro ⟨n, hn⟩
  induction n with
  | zero => intro h; exact absurd rfl h
  | succ n ih =>
    intro h d
    have h' : ¬ (n + 1) % 7 = 0 := h
    rw [(dats m 0 c).before_of_pos w _ (Nat.succ_ne_zero n) ((cfg0.win w).fetch_out hout _), ← hsame _ h]
    have hfl : (cfg0.win w).flush ⟨n, Nat.lt_of_succ_lt hn⟩ = false := by
      rw [← Bool.not_eq_true, hflush]; show ¬ n % 7 = 6; omega
    show (if (cfg0.win w).flush ⟨n, Nat.lt_of_succ_lt hn⟩ = true then d else (dats m 0 c).left w ⟨n, Nat.lt_of_succ_lt hn⟩ d)
      = (dats m 0 c).after w ⟨n, Nat.lt_of_succ_lt hn⟩
    rw [hfl, if_neg Bool.false_ne_true]
    unfold Dat.left
    rw [hidle]
    by_cases h0 : n % 7 = 0
    · rw [(cond1_iff ⟨n, Nat.lt_of_succ_lt hn⟩).mpr h0]
      exact hkept _ _
    · have hi : (!(k0_cond1 (grid0.coords ⟨n, Nat.lt_of_succ_lt hn⟩) == 1#1)) = true := by
        have := mt (cond1_iff ⟨n, Nat.lt_of_succ_lt hn⟩).mp h0
        simpa using this
      rw [hi]
      exact ih (Nat.lt_of_succ_lt hn) h0 d

/-- After the first column step the body finds in window 7 the codes of the row block. -/
theorem before_7 (c : Dev nD) (t : Fin cfg0.N) (h : t.val % 7 ≠ 0) (d) : (dats m 0 c).before 7 t d = xCodes (iblk m c 0 t) :=
  (before_kept m c 7 rfl flush0_7 (fun _ => rfl) (fun _ _ => rfl)
    (fun t h => by rw [after_7, after_7, iblk0_pred m c t h]) t h d).trans (after_7 m c t)
/-- After the first column step it finds in window 8 their scales. -/
theorem before_8 (c : Dev nD) (t : Fin cfg0.N) (h : t.val % 7 ≠ 0) (d) : (dats m 0 c).before 8 t d = xScale (iblk m c 0 t) :=
  (before_kept m c 8 rfl flush0_8 (fun _ => rfl) (fun _ _ => rfl)
    (fun t h => by rw [after_8, after_8, iblk0_pred m c t h]) t h d).trans (after_8 m c t)

/-! ## The body obligation -/

/-- What the body is handed of window `w` at point `t`. -/
def finds (c : Dev nD) (t : Fin cfg0.N) (w : Fin cfg0.W) : sProp 𝕄 :=
  iprop(∃ d, owns (c : Thread nD τ) ((cfg0.win w).stage (cfg0.slots t w)) fullShare ((dats m 0 c).before w t d))

/-- What it hands back: what it found, at a point idle for the window that does not write it back; else what the proof data
    says. -/
def leaves (c : Dev nD) (t : Fin cfg0.N) (w : Fin cfg0.W) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

/-- A window that is not idle at this point leaves with its stated contents. -/
theorem leaves_live (c : Dev nD) (t : Fin cfg0.N) (w : Fin cfg0.W) (h : cfg0.idle w (cfg0.grid.coords t) = false) :
    leaves m c t w = owns (c : Thread nD τ) ((cfg0.win w).stage (cfg0.slots t w)) fullShare ((dats m 0 c).after w t) := by
  unfold leaves; rw [h]
/-- So does a window that is written back at this point. -/
theorem leaves_flush (c : Dev nD) (t : Fin cfg0.N) (w : Fin cfg0.W) (h : (cfg0.win w).flush t = true) :
    leaves m c t w = owns (c : Thread nD τ) ((cfg0.win w).stage (cfg0.slots t w)) fullShare ((dats m 0 c).after w t) := by
  unfold leaves; rw [h]; cases cfg0.idle w (cfg0.grid.coords t) <;> rfl
/-- A window that is idle at this point and is not written back, leaves as it was found. -/
theorem leaves_found (c : Dev nD) (t : Fin cfg0.N) (w : Fin cfg0.W) (h : cfg0.idle w (cfg0.grid.coords t) = true)
    (hf : (cfg0.win w).flush t = false) : leaves m c t w = finds m c t w := by
  unfold leaves finds; rw [h, hf]

/-- What the body is given at a point. -/
def bodyPre (c : Dev nD) (t : Fin cfg0.N) : sProp 𝕄 :=
  iprop((dats m 0 c).Φ t.castSucc ∗ (dats m 0 c).owesAt () t.castSucc ∗ finds m c t 0 ∗ finds m c t 1 ∗ finds m c t 2 ∗ finds m c t 3
    ∗ finds m c t 4 ∗ finds m c t 5 ∗ finds m c t 6 ∗ finds m c t 7 ∗ finds m c t 8)

/-- What it gives back. -/
def bodyPost (c : Dev nD) (t : Fin cfg0.N) : sProp 𝕄 :=
  iprop((dats m 0 c).Φ t.succ ∗ (dats m 0 c).owesAt () t.succ ∗ leaves m c t 0 ∗ leaves m c t 1 ∗ leaves m c t 2 ∗ leaves m c t 3
    ∗ leaves m c t 4 ∗ leaves m c t 5 ∗ leaves m c t 6 ∗ leaves m c t 7 ∗ leaves m c t 8)

/-- At the first column step the windows of the rows are written. -/
theorem idle_first (t : Fin cfg0.N) (h : t.val % 7 = 0) : (!(k0_cond1 (grid0.coords t) == 1#1)) = false := by
  rw [(cond1_iff t).mpr h]; rfl
/-- At the other column steps they are not. -/
theorem idle_rest (t : Fin cfg0.N) (h : t.val % 7 ≠ 0) : (!(k0_cond1 (grid0.coords t) == 1#1)) = true := by
  have := mt (cond1_iff t).mp h; simpa using this
/-- Before the last column step the windows of the activations are not written. -/
theorem idle_before (t : Fin cfg0.N) (h : t.val % 7 ≠ 6) : (!(k0_cond2 (grid0.coords t) == 1#1)) = true := by
  have := mt (cond2_iff t).mp h; simpa using this

/-- A window that is written back at the last column step is not written back before it. -/
theorem flush_false {w : Fin cfg0.W} (hfl : ∀ t : Fin cfg0.N, (cfg0.win w).flush t = true ↔ t.val % 7 = 6) (t : Fin cfg0.N)
    (h : t.val % 7 ≠ 6) : (cfg0.win w).flush t = false := by
  rw [← Bool.not_eq_true, hfl]; exact h

/-- The body at any point, from what it finds to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = Φ m c t.val from rfl, show (dats m 0 c).Φ t.succ = Φ m c (t.val + 1) from rfl,
    show (dats m 0 c).owesAt () t.succ = (dats m 0 c).owesAt () t.castSucc from rfl,
    leaves_live m c t 0 rfl, leaves_live m c t 1 rfl, leaves_live m c t 2 rfl, leaves_live m c t 3 rfl, leaves_live m c t 4 rfl]
  rw [after_0, after_1, after_2, after_3, after_4]
  by_cases h0 : t.val % 7 = 0
  · have h6 : t.val % 7 ≠ 6 := by omega
    rw [leaves_found m c t 5 (idle_before t h6) (flush_false flush0_5 t h6), leaves_found m c t 6 (idle_before t h6) (flush_false flush0_6 t h6),
      leaves_live m c t 7 (idle_first t h0), leaves_live m c t 8 (idle_first t h0), after_7, after_8]
    unfold finds Φ
    simp only [before_0, before_1, before_2, before_3, before_4]
    iintro ⟨⟨⟨%Z, %hZ, Hz⟩, Hr⟩, Ho, ⟨%d0, H0⟩, ⟨%d1, H1⟩, ⟨%d2, H2⟩, ⟨%d3, H3⟩, ⟨%d4, H4⟩, H5, H6, ⟨%d7, H7⟩, ⟨%d8, H8⟩⟩
    iapply (first c Set.univ _ _ _ _ _ _ _ _ _ _ _ _ _ _ _ _ _ _ _ _ _ (iblk m c 0 t) (iblk m c 1 t) (iblk m c 2 t) (iblk m c 3 t) (iblk m c 4 t) Z _
      ((cond1_iff t).mpr h0) (mt (cond2_iff t).mp h6))
    isplitl [H0]; · iexact H0
    isplitl [H1]; · iexact H1
    isplitl [H2]; · iexact H2
    isplitl [H3]; · iexact H3
    isplitl [H4]; · iexact H4
    isplitl [H7]; · iexists _; iexact H7
    isplitl [H8]; · iexists _; iexact H8
    isplitl [Hz]; · iexact Hz
    iintro ⟨H0, H1, H2, H3, H4, H7, H8, Hz⟩
    isplitl [Hz Hr]
    · isplitl [Hz]
      · iexists _
        isplitr
        · ipureintro; exact put_held_succ m c t Z hZ
        · iexact Hz
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  by_cases h6 : t.val % 7 = 6
  · rw [leaves_flush m c t 5 ((flush0_5 t).mpr h6), leaves_flush m c t 6 ((flush0_6 t).mpr h6),
      leaves_flush m c t 7 ((flush0_7 t).mpr h6), leaves_flush m c t 8 ((flush0_8 t).mpr h6), after_5, after_6, after_7, after_8]
    unfold finds Φ
    simp only [before_0, before_1, before_2, before_3, before_4, before_7 m c t h0, before_8 m c t h0]
    iintro ⟨⟨⟨%Z, %hZ, Hz⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [← put_last m c t h6 Z hZ]
    iapply (last c Set.univ _ _ _ _ _ _ _ _ _ _ _ _ _ _ _ _ _ _ _ _ _ (iblk m c 0 t) (iblk m c 1 t) (iblk m c 2 t) (iblk m c 3 t) (iblk m c 4 t) Z _
      (xCodes (iblk m c 0 t)) (xScale (iblk m c 0 t)) (mt (cond1_iff t).mp h0) ((cond2_iff t).mpr h6))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [H8]; · iexact H8
    isplitl [Hz]; · iexact Hz
    iintro ⟨H0, H1, H2, H3, H4, H5, H6, H7, H8, Hz⟩
    isplitl [Hz Hr]
    · isplitl [Hz]
      · iexists _
        isplitr
        · ipureintro; exact put_held_succ m c t Z hZ
        · iexact Hz
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [leaves_found m c t 5 (idle_before t h6) (flush_false flush0_5 t h6), leaves_found m c t 6 (idle_before t h6) (flush_false flush0_6 t h6),
      leaves_found m c t 7 (idle_rest t h0) (flush_false flush0_7 t h6), leaves_found m c t 8 (idle_rest t h0) (flush_false flush0_8 t h6)]
    unfold finds Φ
    simp only [before_0, before_1, before_2, before_3, before_4, before_7 m c t h0, before_8 m c t h0]
    iintro ⟨⟨⟨%Z, %hZ, Hz⟩, Hr⟩, Ho, ⟨%d0, H0⟩, ⟨%d1, H1⟩, ⟨%d2, H2⟩, ⟨%d3, H3⟩, ⟨%d4, H4⟩, H5, H6, ⟨%d7, H7⟩, ⟨%d8, H8⟩⟩
    iapply (middle c Set.univ _ _ _ _ _ _ _ _ _ _ _ _ _ _ _ _ _ _ _ _ _ (iblk m c 0 t) (iblk m c 1 t) (iblk m c 2 t) (iblk m c 3 t) (iblk m c 4 t) Z _
      (xCodes (iblk m c 0 t)) (xScale (iblk m c 0 t)) (mt (cond1_iff t).mp h0) (mt (cond2_iff t).mp h6))
    isplitl [H0]; · iexact H0
    isplitl [H1]; · iexact H1
    isplitl [H2]; · iexact H2
    isplitl [H3]; · iexact H3
    isplitl [H4]; · iexact H4
    isplitl [H7]; · iexact H7
    isplitl [H8]; · iexact H8
    isplitl [Hz]; · iexact Hz
    iintro ⟨H0, H1, H2, H3, H4, H7, H8, Hz⟩
    isplitl [Hz Hr]
    · isplitl [Hz]
      · iexists _
        isplitr
        · ipureintro; exact put_held_succ m c t Z hZ
        · iexact Hz
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexists d8; iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The invariant before the first point, from the scratch at anything. -/
theorem Φ_in (c : Dev nD) : (Pipeline.ΦA spec0 c : sProp 𝕄) ⊢ Φ m c 0 := by
  unfold Pipeline.ΦA Φ
  rw [scopedRest0_eq]
  iintro ⟨⟨%f, Hz⟩, Hr⟩
  isplitl [Hz]
  · iexists f
    isplitr
    · ipureintro; exact Held.zero m c 0 rfl f
    · rw [owns_whole (c : Thread nD τ) cc0_scratch0 fullShare f]; iexact Hz
  · iexact Hr

/-- The scratch after the last point, its contents forgotten. -/
theorem Φ_out (c : Dev nD) (n : ℕ) : Φ m c n ⊢ (Pipeline.ΦA spec0 c : sProp 𝕄) := by
  unfold Pipeline.ΦA Φ
  rw [scopedRest0_eq]
  simp only [owns_whole]
  iintro ⟨⟨%Z, -, Hz⟩, Hr⟩
  isplitl [Hz]
  · iexists Z; iexact Hz
  · iexact Hr

set_option backward.isDefEq.respectTransparency.types false in
set_option maxHeartbeats 800000 in
/-- THE LAUNCH: every execution of the program ends with every array of the pipeline at what the proof data says, every other
    buffer as the host's lines after the region leave it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := fun c => Φ_in m c) (hout := fun c => Φ_out m c _)

/-- The run: every array at its stated contents, every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: the arguments end as they began and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Data

end
-- ==== Proof.Machine.lean ====
/-
  The frame of the kernel read on the machine's own numbers.

  `Kernel` and `KernelIdeal` print the same text twice: the functions they call agree body for body (`row`, `calls`), so the
  frame shown of the second, at any reading of the floats, is the frame of the first.
-/
module

public import proofs.«01_k».proof.Defs
public import proofs.«01_k».proof.Proof.Gen.Kernel
public import proofs.«01_k».proof.Proof.Gen.KernelIdeal
public import proofs.«01_k».proof.Proof.Data

@[expose] public section

namespace Cert.Machine

open Idealize.ShloMosaic Idealize.SL.Sem

/-- The two programs' kernel bodies are the same functions. -/
theorem row {F : FTy → Type} [FloatOps F] : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

/-- The two programs call the same functions. -/
theorem calls {F : FTy → Type} [FloatOps F] : Cert.Kernel.defs (F := F) = Cert.KernelIdeal.defs (F := F) := by
  have h : Cert.Kernel.defs (F := F) = Pipeline.defs (Cert.KernelIdeal.pcfgs (F := F)) (Cert.Kernel.defs₀ (F := F)) := rfl
  rw [h, row]; rfl

/-- The kernel on machine numbers runs, leaves its arguments and ends with every semaphore counter at zero. -/
theorem frame : Cert.quiescent_Kernel (hKernel := Cert.Kernel.Gen.facts) := fun m g _ => by
  have h := Cert.KernelIdeal.Data.frame (F := Bits) m g
  rw [← calls] at h
  exact h

end Cert.Machine

end
-- ==== Proof.Exponent.lean ====
/-
  The scale of a row, as a number: the power of two just above `v`, its exponent held between -126 and 126.

  The kernel finds the exponent by comparing with powers of two and halving the range each time (`up`, `down`: one
  comparison of the search upwards and downwards), and builds the power from its bits. Here the search is read over the
  extended reals: it ends at the floor of the binary logarithm of `v` (`lg`), held between -127 and 127 (`search`), and the bits it builds denote the power
  of two (`word_pow2`).
-/
module

public import Idealize.ShloMosaic.PureOps.Ideal.Laws
public import Idealize.ShloMosaic.Lib.Pointwise

@[expose] public section

noncomputable section

namespace Cert.Exponent

open Idealize.ShloMosaic

/-! ## Powers of two -/

/-- `2 ^ k` as an extended real. -/
def two (k : ℤ) : EReal := (((2 : ℝ) ^ k : ℝ) : EReal)

/-- A power of two is positive. -/
theorem two_pos (k : ℤ) : 0 < two k := by
  unfold two; exact_mod_cast zpow_pos (by norm_num : (0 : ℝ) < 2) k

/-- Powers of two are ordered as their exponents. -/
theorem two_lt_two {j k : ℤ} : two j < two k ↔ j < k := by
  unfold two; rw [EReal.coe_lt_coe_iff]; exact zpow_lt_zpow_iff_right₀ (by norm_num)

/-- The zeroth power is one. -/
theorem two_zero : two 0 = 1 := by simp [two]

/-- One over a power of two is the opposite power. -/
theorem div_two (k : ℤ) : Ideal.div 1 (two k) = two (-k) := by
  unfold two
  rw [Ideal.div_coe (zpow_ne_zero _ (by norm_num)), one_mul, zpow_neg, one_div]

/-- The fields of the pattern whose exponent field is `k` and whose other fields are zero. -/
theorem fields : ∀ k : Fin 256, ((BitVec.ofNat 32 k.val <<< 23).extractLsb' 23 8).toNat = k.val
    ∧ ((BitVec.ofNat 32 k.val <<< 23).extractLsb' 0 23).toNat = 0 ∧ (BitVec.ofNat 32 k.val <<< 23).extractLsb' 31 1 = 0#1 := by
  decide

/-- The f32 pattern of exponent field `k` and no fraction denotes `2 ^ (k - 127)`. -/
theorem ofBits_field (k : ℕ) (h1 : 1 ≤ k) (h2 : k ≤ 254) : Ideal.ofBits .f32 (BitVec.ofNat 32 k <<< 23) = two ((k : ℤ) - 127) := by
  obtain ⟨he, hf, hs⟩ := fields ⟨k, by omega⟩
  dsimp only at he hf hs
  unfold Ideal.ofBits Ideal.ieee two
  simp only [show (8 + 23 : ℕ) = 31 from rfl, he, hf, hs]
  rw [if_neg (by norm_num; omega), if_neg (by omega)]
  have e : (2 : ℝ) ^ ((k : ℤ) - 127) = (2 : ℝ) ^ (23 : ℕ) * (2 : ℝ) ^ ((k : ℤ) - (2 ^ (8 - 1) - 1) - (23 : ℕ)) := by
    rw [← zpow_natCast, ← zpow_add₀ (by norm_num)]
    exact congrArg _ (by norm_num)
  rw [e]
  refine congrArg Real.toEReal ?_
  push_cast
  simp only [show ((0#1 : BitVec 1) == 1#1) = false from rfl, add_zero, Bool.false_eq_true, if_false, one_mul]
  norm_num

/-- The word the kernel builds of an exponent `E`: `E` held between -126 and 126, in the exponent field. -/
def word (e : BitVec 32) : BitVec 32 :=
  IntOp.shli .vector (IntOp.addi (IntOp.minsi 126#32 (IntOp.maxsi 4294967170#32 e)) 127#32) 23#32

/-- Of every exponent that can come up the word is the pattern of the exponent held between -126 and 126. -/
theorem word_eq (E : ℤ) (h1 : -128 ≤ E) (h2 : E ≤ 128) :
    word (BitVec.ofInt 32 E) = BitVec.ofNat 32 (max (-126) (min 126 E) + 127).toNat <<< 23 := by
  have h : ∀ k : Fin 257, word (BitVec.ofInt 32 ((k.val : ℤ) - 128))
      = BitVec.ofNat 32 (max (-126) (min 126 ((k.val : ℤ) - 128)) + 127).toNat <<< 23 := by decide
  have := h ⟨(E + 128).toNat, by omega⟩
  dsimp only at this
  rwa [show (((E + 128).toNat : ℤ) - 128) = E by omega] at this

/-- So it denotes that power of two. -/
theorem word_pow2 (E : ℤ) (h1 : -128 ≤ E) (h2 : E ≤ 128) :
    Ideal.ofBits .f32 (word (BitVec.ofInt 32 E)) = two (max (-126) (min 126 E)) := by
  rw [word_eq E h1 h2, ofBits_field _ (by omega) (by omega)]
  congr 1; omega

/-! ## The search for the exponent -/

open Classical in
/-- The floor of the binary logarithm of a positive number. -/
def lg (r : ℝ) : ℤ := if h : 0 < r then (exists_mem_Ico_zpow h (one_lt_two (α := ℝ))).choose else 0

/-- The powers of two up to `r` are those of exponent up to its logarithm. -/
theorem zpow_le_iff {r : ℝ} (hr : 0 < r) (k : ℤ) : (2 : ℝ) ^ k ≤ r ↔ k ≤ lg r := by
  have h : (2 : ℝ) ^ lg r ≤ r ∧ r < (2 : ℝ) ^ (lg r + 1) := by
    unfold lg; rw [dif_pos hr]; exact (exists_mem_Ico_zpow hr (one_lt_two (α := ℝ))).choose_spec
  constructor
  · intro hk
    have := (zpow_lt_zpow_iff_right₀ (one_lt_two (α := ℝ))).1 (hk.trans_lt h.2)
    omega
  · exact fun hk => ((zpow_le_zpow_iff_right₀ (one_lt_two (α := ℝ))).2 hk).trans h.1

/-- The search's state: `w` is `r` divided by `2 ^ E`, and `e` is the word of `E`. -/
def At (r : ℝ) (E : ℤ) (w : EReal) (e : BitVec 32) : Prop :=
  w = ((r * (2 : ℝ) ^ (-E) : ℝ) : EReal) ∧ e = BitVec.ofInt 32 E

/-- The same of `r` scaled by `2 ^ (-E)`. -/
theorem le_iff {r : ℝ} (hr : 0 < r) (E s : ℤ) : two s ≤ ((r * (2 : ℝ) ^ (-E) : ℝ) : EReal) ↔ s + E ≤ lg r := by
  unfold two
  rw [EReal.coe_le_coe_iff, zpow_neg, ← div_eq_mul_inv, le_div_iff₀ (by positivity), ← zpow_add₀ (by norm_num)]
  exact zpow_le_iff hr (s + E)

/-- After the upward comparisons down to `s`: nothing was moved for a small `r`; for a large one what is left is below
    `2 ^ s`, or every move was made. -/
def Up (r : ℝ) (s : ℤ) (w : EReal) (e : BitVec 32) : Prop :=
  ∃ E, At r E w e ∧ 0 ≤ E ∧ E ≤ 128 - s ∧ (lg r < 0 → E = 0)
    ∧ (0 ≤ lg r → E ≤ lg r ∧ (lg r - E < s ∨ E = 128 - s))

/-- After the downward comparisons down to `s`, likewise. -/
def Down (r : ℝ) (s : ℤ) (w : EReal) (e : BitVec 32) : Prop :=
  ∃ E, At r E w e ∧ (0 ≤ lg r → E = min 127 (lg r))
    ∧ (lg r < 0 → lg r ≤ E ∧ s - 128 ≤ E ∧ E ≤ 0 ∧ (-s < lg r - E ∨ E = s - 128))

/-- Selecting by a truth value. -/
theorem select_ofBool {α : Type} (b : Bool) (x y : α) : Scalar.select (BitVec.ofBool b) x y = if b then x else y := by
  cases b <;> rfl

/-- A scaled number stays one when both its parts move by the same shift. -/
theorem At.move {r : ℝ} {E s : ℤ} {w : EReal} {e : BitVec 32} (h : At r E w e) :
    At r (E + s) (w * two (-s)) (e + BitVec.ofInt 32 s) := by
  obtain ⟨rfl, rfl⟩ := h
  refine ⟨?_, (BitVec.ofInt_add ..).symm⟩
  unfold two
  rw [← EReal.coe_mul, neg_add, zpow_add₀ (by norm_num), mul_assoc]

/-- One upward comparison. -/
theorem up {r : ℝ} (hr : 0 < r) (s : ℤ) {w a b : EReal} {e t : BitVec 32} (hs : 0 < s) (ha : a = two s) (hb : b = two (-s))
    (ht : t = BitVec.ofInt 32 s) (h : Up r (2 * s) w e) :
    Up r s (Scalar.select (Ideal.cmp .oge w a) (w * b) w) (Scalar.select (Ideal.cmp .oge w a) (e + t) e) := by
  subst ha hb ht
  obtain ⟨E, hA, h⟩ := h
  have hc : two s ≤ w ↔ s + E ≤ lg r := by rw [hA.1]; exact le_iff hr E s
  unfold Ideal.cmp
  rw [select_ofBool, select_ofBool]
  by_cases hle : two s ≤ w
  · rw [if_pos (by simpa using hle), if_pos (by simpa using hle)]
    have := hc.1 hle
    exact ⟨E + s, hA.move, by omega⟩
  · rw [if_neg (by simpa using hle), if_neg (by simpa using hle)]
    have : ¬ (s + E ≤ lg r) := fun h => hle (hc.2 h)
    exact ⟨E, hA, by omega⟩

/-- One downward comparison. -/
theorem down {r : ℝ} (hr : 0 < r) (s : ℤ) {w a b : EReal} {e t : BitVec 32} (hs : 0 < s) (ha : a = two (1 - s)) (hb : b = two s)
    (ht : t = BitVec.ofInt 32 s) (h : Down r (2 * s) w e) :
    Down r s (Scalar.select (Ideal.cmp .olt w a) (w * b) w) (Scalar.select (Ideal.cmp .olt w a) (e - t) e) := by
  subst ha hb ht
  obtain ⟨E, hA, h⟩ := h
  have hc : two (1 - s) ≤ w ↔ 1 - s + E ≤ lg r := by rw [hA.1]; exact le_iff hr E (1 - s)
  unfold Ideal.cmp
  rw [select_ofBool, select_ofBool]
  by_cases hlt : w < two (1 - s)
  · rw [if_pos (by simpa using hlt), if_pos (by simpa using hlt)]
    have : ¬ (1 - s + E ≤ lg r) := fun h => absurd (hc.2 h) (not_le.2 hlt)
    have hm := hA.move (s := -s)
    rw [neg_neg, BitVec.ofInt_neg, ← BitVec.sub_eq_add_neg] at hm
    exact ⟨E + -s, hm, by omega⟩
  · rw [if_neg (by simpa using hlt), if_neg (by simpa using hlt)]
    have := hc.1 (not_lt.1 hlt)
    exact ⟨E, hA, by omega⟩

/-- Before the first comparison. -/
theorem up_start (r : ℝ) : Up r 128 ((r : ℝ) : EReal) 0#32 :=
  ⟨0, ⟨by simp, by simp⟩, by omega⟩

/-- The downward comparisons begin where the upward ones end. -/
theorem Up.turn {r : ℝ} {w : EReal} {e : BitVec 32} (h : Up r 1 w e) : Down r 128 w e := by
  obtain ⟨E, hA, h⟩ := h
  exact ⟨E, hA, by omega⟩

/-- The search ends at the logarithm of `r`, held between -127 and 127. -/
theorem Down.done {r : ℝ} {w : EReal} {e : BitVec 32} (h : Down r 1 w e) : e = BitVec.ofInt 32 (max (-127) (min 127 (lg r))) := by
  obtain ⟨E, hA, h⟩ := h
  rw [hA.2]; congr 1; omega

/-! ## The whole search -/

/-- An f32 literal that is a power of two. -/
theorem lit (b : BitVec 32) (s : ℤ) (h : -126 ≤ s ∧ s ≤ 127 ∧ b = BitVec.ofNat 32 (s + 127).toNat <<< 23) :
    Ideal.ofBits .f32 b = two s := by
  obtain ⟨h1, h2, rfl⟩ := h
  rw [ofBits_field _ (by omega) (by omega)]; congr 1; omega

/-- One upward comparison of the kernel: with the literals `a`, `b` and the step `t`. -/
def upK (a b t : BitVec 32) (p : EReal × BitVec 32) : EReal × BitVec 32 :=
  (Scalar.select (Ideal.cmp .oge p.1 (Ideal.ofBits .f32 a)) (p.1 * Ideal.ofBits .f32 b) p.1,
    Scalar.select (Ideal.cmp .oge p.1 (Ideal.ofBits .f32 a)) (IntOp.addi p.2 t) p.2)

/-- One downward comparison of the kernel. -/
def downK (a b t : BitVec 32) (p : EReal × BitVec 32) : EReal × BitVec 32 :=
  (Scalar.select (Ideal.cmp .olt p.1 (Ideal.ofBits .f32 a)) (p.1 * Ideal.ofBits .f32 b) p.1,
    Scalar.select (Ideal.cmp .olt p.1 (Ideal.ofBits .f32 a)) (IntOp.subi p.2 t) p.2)

/-- The upward half of the search. -/
def climb (v : EReal) : EReal × BitVec 32 :=
  upK 0x40000000#32 0x3F000000#32 1#32 (upK 0x40800000#32 0x3E800000#32 2#32 (upK 0x41800000#32 0x3D800000#32 4#32
    (upK 0x43800000#32 0x3B800000#32 8#32 (upK 0x47800000#32 0x37800000#32 16#32 (upK 0x4F800000#32 0x2F800000#32 32#32
      (upK 0x5F800000#32 0x1F800000#32 64#32 (v, 0#32)))))))

/-- The downward half, from where the upward half ended. -/
def descend (p : EReal × BitVec 32) : EReal × BitVec 32 :=
  downK 0x3F800000#32 0x40000000#32 1#32 (downK 0x3F000000#32 0x40800000#32 2#32 (downK 0x3E000000#32 0x41800000#32 4#32
    (downK 0x3C000000#32 0x43800000#32 8#32 (downK 0x38000000#32 0x47800000#32 16#32 (downK 0x30000000#32 0x4F800000#32 32#32
      (downK 0x20000000#32 0x5F800000#32 64#32 p))))))

/-- The exponent the kernel finds of `v`: 0 of zero and of infinity. -/
def found (v : EReal) : BitVec 32 :=
  Scalar.select (IntOp.andi (Ideal.cmp .ogt v (Ideal.ofBits .f32 0x00000000#32)) (Ideal.cmp .olt v (Ideal.ofBits .f32 0x7F800000#32)))
    (IntOp.addi (descend (climb v)).2 1#32) 0#32

/-- One comparison upwards keeps the invariant of the climb. -/
theorem upK_up {r : ℝ} (hr : 0 < r) (s s' : ℤ) (a b t : BitVec 32) (p : EReal × BitVec 32)
    (h : s' = 2 * s ∧ 0 < s ∧ s ≤ 64 ∧ a = BitVec.ofNat 32 (s + 127).toNat <<< 23 ∧ b = BitVec.ofNat 32 (-s + 127).toNat <<< 23
      ∧ t = BitVec.ofInt 32 s) (hp : Up r s' p.1 p.2) : Up r s (upK a b t p).1 (upK a b t p).2 := by
  obtain ⟨rfl, h0, h1, ha, hb, ht⟩ := h
  exact up hr s h0 (lit a s ⟨by omega, by omega, ha⟩) (lit b (-s) ⟨by omega, by omega, hb⟩) ht hp

/-- One comparison downwards keeps the invariant of the descent. -/
theorem downK_down {r : ℝ} (hr : 0 < r) (s s' : ℤ) (a b t : BitVec 32) (p : EReal × BitVec 32)
    (h : s' = 2 * s ∧ 0 < s ∧ s ≤ 64 ∧ a = BitVec.ofNat 32 (1 - s + 127).toNat <<< 23 ∧ b = BitVec.ofNat 32 (s + 127).toNat <<< 23
      ∧ t = BitVec.ofInt 32 s) (hp : Down r s' p.1 p.2) : Down r s (downK a b t p).1 (downK a b t p).2 := by
  obtain ⟨rfl, h0, h1, ha, hb, ht⟩ := h
  exact down hr s h0 (lit a (1 - s) ⟨by omega, by omega, ha⟩) (lit b s ⟨by omega, by omega, hb⟩) ht hp

/-- The invariant of the climb after all seven comparisons upwards. -/
theorem climb_up {r : ℝ} (hr : 0 < r) : Up r 1 (climb (r : EReal)).1 (climb (r : EReal)).2 := by
  unfold climb
  refine upK_up hr 1 2 _ _ _ _ (by decide) ?_
  refine upK_up hr 2 4 _ _ _ _ (by decide) ?_
  refine upK_up hr 4 8 _ _ _ _ (by decide) ?_
  refine upK_up hr 8 16 _ _ _ _ (by decide) ?_
  refine upK_up hr 16 32 _ _ _ _ (by decide) ?_
  refine upK_up hr 32 64 _ _ _ _ (by decide) ?_
  refine upK_up hr 64 128 _ _ _ _ (by decide) ?_
  exact up_start r

/-- The invariant of the descent after all seven comparisons downwards. -/
theorem descend_down {r : ℝ} (hr : 0 < r) {p : EReal × BitVec 32} (h : Down r 128 p.1 p.2) :
    Down r 1 (descend p).1 (descend p).2 := by
  unfold descend
  refine downK_down hr 1 2 _ _ _ _ (by decide) ?_
  refine downK_down hr 2 4 _ _ _ _ (by decide) ?_
  refine downK_down hr 4 8 _ _ _ _ (by decide) ?_
  refine downK_down hr 8 16 _ _ _ _ (by decide) ?_
  refine downK_down hr 16 32 _ _ _ _ (by decide) ?_
  refine downK_down hr 32 64 _ _ _ _ (by decide) ?_
  refine downK_down hr 64 128 _ _ _ _ (by decide) ?_
  exact h

/-- The exponent that `v` should get, before it is held between -126 and 126. -/
def expo (v : EReal) : ℤ := if v = 0 ∨ v = ⊤ then 0 else max (-127) (min 127 (lg v.toReal)) + 1

/-- The exponent lies between -126 and 128. -/
theorem expo_bounds (v : EReal) : -126 ≤ expo v ∧ expo v ≤ 128 := by unfold expo; split_ifs <;> omega

/-- The pattern of zero. -/
theorem lit_zero : Ideal.ofBits .f32 0x00000000#32 = 0 := by simp [Ideal.ofBits, Ideal.ieee]

/-- The pattern of infinity. -/
theorem lit_top : Ideal.ofBits .f32 0x7F800000#32 = ⊤ := by simp [Ideal.ofBits, Ideal.ieee]

/-- The pattern of minus infinity. -/
theorem lit_bot : Ideal.ofBits .f32 0xFF800000#32 = ⊥ := by simp [Ideal.ofBits, Ideal.ieee]

/-- THE SEARCH: of every `v` that is not negative the kernel finds that exponent. -/
theorem found_eq (v : EReal) (hv : 0 ≤ v) : found v = BitVec.ofInt 32 (expo v) := by
  unfold found Ideal.cmp
  rw [lit_zero, lit_top]
  induction v with
  | bot => exact absurd hv (by simp)
  | top => simp [expo, IntOp.andi, Scalar.select]
  | coe r =>
    rcases eq_or_lt_of_le (EReal.coe_nonneg.1 hv) with rfl | hr
    · simp [expo, IntOp.andi, Scalar.select]
    · have h0 : ((r : ℝ) : EReal) ≠ 0 := by exact_mod_cast hr.ne'
      have h1 : (0 : EReal) < r := by exact_mod_cast hr
      have hd := (descend_down hr (climb_up hr).turn).done
      simp only [h1, EReal.coe_lt_top, decide_true, expo, h0, EReal.coe_ne_top, or_self, if_false, EReal.toReal_coe]
      rw [hd, BitVec.ofInt_add]
      rfl

/-- The exponent `v` gets. -/
def held (v : EReal) : ℤ := max (-126) (min 126 (expo v))

/-- The power the kernel builds of the exponent it found. -/
theorem power (v : EReal) (hv : 0 ≤ v) : Ideal.ofBits .f32 (word (found v)) = two (held v) := by
  rw [found_eq v hv, word_pow2 _ (by have := expo_bounds v; omega) (by have := expo_bounds v; omega)]; rfl

/-- The power it builds of the opposite exponent. -/
theorem power_neg (v : EReal) (hv : 0 ≤ v) : Ideal.ofBits .f32 (word (IntOp.subi 0#32 (found v))) = two (-held v) := by
  have hb := expo_bounds v
  have h : IntOp.subi 0#32 (BitVec.ofInt 32 (expo v)) = BitVec.ofInt 32 (-expo v) := by
    rw [BitVec.ofInt_neg]; exact BitVec.zero_sub _
  rw [found_eq v hv, h, word_pow2 _ (by omega) (by omega)]
  congr 1; unfold held; omega

end Cert.Exponent

end
-- ==== Proof.Row.lean ====
/-
  One row quantised, as mathematics over the extended reals: its largest absolute value `rowMax`, its scale `rowScale`,
  the inverse of the scale `rowInv`, and the code of an element of it (`code`).

  Below them, how a row's largest absolute value and a broadcast column or row read in the printed operations.
-/
module

public import Idealize.ShloMosaic.Lib.ValueLayoutCasts
public import proofs.«01_k».proof.Proof.Exponent

@[expose] public section

noncomputable section

namespace Cert.Row

open Idealize.ShloMosaic hiding ix1 ix2 eq_ix2
open Idealize.ShloMosaic.ValueIdx
open Cert.Exponent

/-- The largest absolute value of a row. -/
def rowMax {n : ℕ} (f : Fin n → EReal) : EReal := (Finset.univ : Finset (Fin n)).fold max ⊥ fun k => max (f k) (-f k)

/-- The f32 number nearest 1/448, by which the largest absolute value is multiplied. -/
def unit : EReal := Ideal.ofBits .f32 0x3B124925#32

/-- The scale of a row. -/
def rowScale {n : ℕ} (f : Fin n → EReal) : EReal := two (held (rowMax f * unit))

/-- The inverse of a row's scale. -/
def rowInv {n : ℕ} (f : Fin n → EReal) : EReal := two (-held (rowMax f * unit))

/-- A scaled element held between -448 and 448. -/
def clip (y : EReal) : EReal := min (Ideal.ofBits .f32 0x43E00000#32) (max (Ideal.ofBits .f32 0xC3E00000#32) y)

/-- The code of element `k` of a row. -/
def code {n : ℕ} (f : Fin n → EReal) (k : Fin n) : EReal := clip (f k * rowInv f)

/-- The number nearest 1/448 is a positive real. -/
theorem unit_real : ∃ c : ℝ, 0 < c ∧ unit = (c : EReal) := by
  refine ⟨(2 ^ 23 + 1198373 : ℕ) * (2 : ℝ) ^ ((118 : ℤ) - 127 - 23), by positivity, ?_⟩
  have he : ((0x3B124925#32 : BitVec 32).extractLsb' 23 8).toNat = 118 := by decide
  have hf : ((0x3B124925#32 : BitVec 32).extractLsb' 0 23).toNat = 1198373 := by decide
  have hs : (0x3B124925#32 : BitVec 32).extractLsb' 31 1 = 0#1 := by decide
  unfold unit Ideal.ofBits Ideal.ieee
  simp only [show (8 + 23 : ℕ) = 31 from rfl, he, hf, hs]
  rw [if_neg (by norm_num), if_neg (by norm_num)]
  refine congrArg Real.toEReal ?_
  simp only [show ((0#1 : BitVec 1) == 1#1) = false from rfl, Bool.false_eq_true, if_false, one_mul]
  congr 2

/-- The largest absolute value of a row that has an element is not negative. -/
theorem rowMax_nonneg {n : ℕ} (f : Fin n → EReal) (hn : 0 < n) : 0 ≤ rowMax f := by
  refine (Finset.le_fold_max _).2 (Or.inr ⟨⟨0, hn⟩, Finset.mem_univ _, ?_⟩)
  rcases le_total 0 (f ⟨0, hn⟩) with h | h
  · exact le_max_of_le_left h
  · exact le_max_of_le_right (by simpa using EReal.neg_le_neg_iff.2 h)

/-- Multiplied by it what is not negative stays so. -/
theorem mul_unit_nonneg {a : EReal} (h : 0 ≤ a) : 0 ≤ a * unit := by
  obtain ⟨c, hc, e⟩ := unit_real
  exact mul_nonneg h (by rw [e]; exact_mod_cast hc.le)

/-- Multiplied by the number nearest 1/448 only zero becomes zero. -/
theorem mul_unit_eq_zero {a : EReal} : a * unit = 0 ↔ a = 0 := by
  obtain ⟨c, hc, e⟩ := unit_real
  rw [e, mul_eq_zero]
  exact ⟨fun h => h.resolve_right (by exact_mod_cast hc.ne'), Or.inl⟩

/-- And of what is not negative only infinity becomes infinity. -/
theorem mul_unit_eq_top {a : EReal} (h : 0 ≤ a) : a * unit = ⊤ ↔ a = ⊤ := by
  obtain ⟨c, hc, e⟩ := unit_real
  rw [e]
  induction a with
  | bot => exact absurd h (by simp)
  | top => simp [EReal.top_mul_coe_of_pos hc]
  | coe r => rw [← EReal.coe_mul]; exact iff_of_false (EReal.coe_ne_top _) (EReal.coe_ne_top _)

/-! ## The printed operations -/

/-- The largest absolute value of each row, as a column. -/
theorem rowMax_col {a n : ℕ} (T : FVec Ideal ⟨2, ![a, n]⟩ .f32) (h : (⟨2, ![a, n]⟩ : Shape).Reduces [1] ⟨1, ![a]⟩)
    (hφ : FKind.Formats .f32) (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ (absf T) 0xFF800000#32 h hφ hacc) hc (ix2 p u)
      = rowMax fun k => T (ix2 p k) := by
  rw [shapeCast_a_a1_apply, Ideal.multiReduction_maximumf_single]
  unfold rowMax
  rw [show (FloatOps.ofBits .f32 0xFF800000#32 : Ideal .f32) = ⊥ from lit_bot]
  refine Finset.fold_congr fun k _ => ?_
  have e : h.lift (ix1 p) k = ix2 p k := by
    refine (eq_ix2 _).trans ?_
    rfl
  show max (T (h.lift (ix1 p) k)) (-(T (h.lift (ix1 p) k))) = _
  rw [e]; rfl

/-- A column broadcast over the columns reads the row's entry. -/
theorem broadcast_col {α : Type} {a n : ℕ} (v : (⟨2, ![a, 1]⟩ : Shape).Idx → α) (h : (⟨2, ![a, 1]⟩ : Shape).Broadcasts ⟨2, ![a, n]⟩)
    (p : Fin a) (k : Fin n) : broadcastTo ⟨2, ![a, n]⟩ v h (ix2 p k) = v (ix2 p 0) := by
  refine broadcastTo_apply v h (ix2 p k) (ix2 p 0) fun ax => ?_
  match ax with
  | ⟨0, _⟩ =>
    show p.val = if a = 1 then 0 else p.val
    split
    · have := p.isLt; omega
    · rfl
  | ⟨1, _⟩ => rfl

end Cert.Row

end
-- ==== Proof.KernelRows.lean ====
/-
  What one row tile of the kernel computes, over the extended reals: the scale and the codes of each of its rows
  (`xScaleT_apply`, `xCodesT_apply`, `hScaleT_apply`, `hCodesT_apply`), and so of a block of 512 rows.
-/
module

public import proofs.«01_k».proof.Proof.Row
public import proofs.«01_k».proof.Proof.Tiles

@[expose] public section

noncomputable section

namespace Cert.KernelIdeal.Rows

open Idealize.ShloMosaic hiding ix1 ix2 eq_ix2
open Idealize.ShloMosaic.ValueIdx
open Cert.KernelIdeal Cert.KernelIdeal.Gen Cert.KernelIdeal.Tiles Cert.Exponent Cert.Row

/-- Where the largest absolute value is zero the kernel puts the exponent at 0, which is what it found there already. -/
theorem found_sel {a : EReal} (h : 0 ≤ a) :
    Scalar.select (Ideal.cmp .oeq a (Ideal.ofBits .f32 0x00000000#32)) 0#32 (found (a * unit)) = found (a * unit) := by
  unfold Ideal.cmp
  rw [lit_zero, select_ofBool]
  split_ifs with h0
  · rw [found_eq _ (mul_unit_nonneg h), of_decide_eq_true h0]
    simp [expo]
  · rfl

attribute [local irreducible] Ideal.ofBits Ideal.cmp

/-! ## The input's tiles -/

theorem xMax (T : Vec Ideal S32x8192 .bf16) (p : Fin 32) (u : Fin 1) : k0_pay5 T (ix2 p u) = rowMax fun k => T (ix2 p k) := by
  unfold k0_pay5
  refine (rowMax_col _ _ _ _ _ p u).trans ?_
  rw [shapeCast_self]; rfl

/-- The exponent of each row is the one `found` gives. -/
theorem xExpT_apply (T : Vec Ideal S32x8192 .bf16) (i : S32x1.Idx) : xExpT T i = found (k0_pay5 T i * unit) := rfl

/-- The scale of each row. -/
theorem xScaleT_apply (T : Vec Ideal S32x8192 .bf16) (p : Fin 32) (u : Fin 1) :
    xScaleT T (ix2 p u) = rowScale fun k => T (ix2 p k) := by
  have h : xScaleT T (ix2 p u) = Ideal.ofBits .f32 (word (Scalar.select (Ideal.cmp .oeq (k0_pay5 T (ix2 p u)) (Ideal.ofBits .f32 0x00000000#32)) 0#32
      (xExpT T (ix2 p u)))) := rfl
  have hn := rowMax_nonneg (fun k => T (ix2 p k)) (by norm_num)
  rw [h, xExpT_apply, xMax, found_sel hn, power _ (mul_unit_nonneg hn)]; rfl

/-- The code of each element. -/
theorem xCodesT_apply (T : Vec Ideal S32x8192 .bf16) (p : Fin 32) (k : Fin 8192) :
    xCodesT T (ix2 p k) = code (fun k => T (ix2 p k)) k := by
  have h : xCodesT T (ix2 p k) = clip (shapeCast S32x8192 T shapeCasts_S32x8192_S32x8192 (ix2 p k)
      * broadcastTo S32x8192 (fun i => Ideal.ofBits .f32 (word (IntOp.subi 0#32 (Scalar.select (Ideal.cmp .oeq (k0_pay5 T i) (Ideal.ofBits .f32 0x00000000#32)) 0#32
      (xExpT T i))))) broadcasts_S32x1_S32x8192 (ix2 p k)) := rfl
  have hn := rowMax_nonneg (fun k => T (ix2 p k)) (by norm_num)
  rw [h, broadcast_col, xExpT_apply, xMax, found_sel hn, power_neg _ (mul_unit_nonneg hn), shapeCast_self]; rfl

/-! ## The activations' tiles -/

theorem hMax (T : Vec Ideal S32x3584 .f32) (p : Fin 32) (u : Fin 1) : k0_pay33 T (ix2 p u) = rowMax fun k => T (ix2 p k) :=
  rowMax_col _ _ _ _ _ p u

/-- The exponent of each row is the one `found` gives. -/
theorem hExpT_apply (T : Vec Ideal S32x3584 .f32) (i : S32x1.Idx) : hExpT T i = found (k0_pay33 T i * unit) := rfl

/-- The scale of each row. -/
theorem hScaleT_apply (T : Vec Ideal S32x3584 .f32) (p : Fin 32) (u : Fin 1) :
    hScaleT T (ix2 p u) = rowScale fun k => T (ix2 p k) := by
  have h : hScaleT T (ix2 p u) = Ideal.ofBits .f32 (word (Scalar.select (Ideal.cmp .oeq (k0_pay33 T (ix2 p u)) (Ideal.ofBits .f32 0x00000000#32)) 0#32
      (hExpT T (ix2 p u)))) := rfl
  have hn := rowMax_nonneg (fun k => T (ix2 p k)) (by norm_num)
  rw [h, hExpT_apply, hMax, found_sel hn, power _ (mul_unit_nonneg hn)]; rfl

/-- The code of each element. -/
theorem hCodesT_apply (T : Vec Ideal S32x3584 .f32) (p : Fin 32) (k : Fin 3584) :
    hCodesT T (ix2 p k) = code (fun k => T (ix2 p k)) k := by
  have h : hCodesT T (ix2 p k) = clip (T (ix2 p k)
      * broadcastTo S32x3584 (fun i => Ideal.ofBits .f32 (word (IntOp.subi 0#32 (Scalar.select (Ideal.cmp .oeq (k0_pay33 T i) (Ideal.ofBits .f32 0x00000000#32)) 0#32
      (hExpT T i))))) broadcasts_S32x1_S32x3584 (ix2 p k)) := rfl
  have hn := rowMax_nonneg (fun k => T (ix2 p k)) (by norm_num)
  rw [h, broadcast_col, hExpT_apply, hMax, found_sel hn, power_neg _ (mul_unit_nonneg hn)]; rfl

/-! ## Blocks of 512 rows -/

theorem glue_apply {α : Type} {n : ℕ} (G : Fin 16 → (⟨2, ![32, n]⟩ : Shape).Idx → α) (p : Fin 512) (k : Fin n) :
    glue G (ix2 p k) = G ⟨p.val / 32, by omega⟩ (ix2 ⟨p.val % 32, Nat.mod_lt _ (by decide)⟩ k) := rfl

/-- Row `p` of a block lies in its part `p / 32`, at row `p % 32`. -/
theorem part_apply {α : Type} {n : ℕ} (X : (⟨2, ![512, n]⟩ : Shape).Idx → α) (p : Fin 512) (k : Fin n) :
    part X ⟨p.val / 32, by omega⟩ (ix2 ⟨p.val % 32, Nat.mod_lt _ (by decide)⟩ k) = X (ix2 p k) :=
  congrArg X (by
    refine congrArg (ix2 · k) (Fin.ext ?_)
    show 32 * (p.val / 32) + p.val % 32 = p.val
    omega)

/-- The scale stored for a row of `x`. -/
theorem xScale_apply (X : Vec Ideal S512x8192 .bf16) (p : Fin 512) (u : Fin 1) : xScale X (ix2 p u) = rowScale fun k => X (ix2 p k) := by
  unfold xScale; rw [glue_apply, xScaleT_apply]; simp only [part_apply]

/-- The codes stored for a row of `x`. -/
theorem xCodes_apply (X : Vec Ideal S512x8192 .bf16) (p : Fin 512) (k : Fin 8192) :
    xCodes X (ix2 p k) = code (fun k => X (ix2 p k)) k := by
  unfold xCodes; rw [glue_apply, xCodesT_apply]; simp only [part_apply]

/-- The scale stored for a row of activations. -/
theorem hScale_apply (X : Vec Ideal S512x3584 .f32) (p : Fin 512) (u : Fin 1) : hScale X (ix2 p u) = rowScale fun k => X (ix2 p k) := by
  unfold hScale; rw [glue_apply, hScaleT_apply]; simp only [part_apply]

/-- The codes stored for a row of activations. -/
theorem hCodes_apply (X : Vec Ideal S512x3584 .f32) (p : Fin 512) (k : Fin 3584) :
    hCodes X (ix2 p k) = code (fun k => X (ix2 p k)) k := by
  unfold hCodes; rw [glue_apply, hCodesT_apply]; simp only [part_apply]

end Cert.KernelIdeal.Rows

end
-- ==== Proof.Spec.lean ====
/-
  The four results as mathematics, over the extended reals, from the rows `x`, the weights `w` and their scales `s`.
-/
module

public import proofs.«01_k».proof.Proof.Row

@[expose] public section

noncomputable section

namespace Cert.Spec

open Idealize.ShloMosaic hiding ix1 ix2 eq_ix2
open Idealize.ShloMosaic.ValueIdx
open Cert.Row

/-- Row `r` of a matrix. -/
def row {a n : ℕ} (x : (⟨2, ![a, n]⟩ : Shape).Idx → EReal) (r : Fin a) : Fin n → EReal := fun k => x (ix2 r k)

/-- Entry `(r, j)` of the scaled product: the row's codes against column `j` of the weights, times the row's scale and the
    column's. -/
def product {a n b : ℕ} (x : (⟨2, ![a, n]⟩ : Shape).Idx → EReal) (w : (⟨2, ![n, b]⟩ : Shape).Idx → EReal)
    (s : (⟨2, ![1, b]⟩ : Shape).Idx → EReal) (r : Fin a) (j : Fin b) : EReal :=
  (∑ k, code (row x r) k * w (ix2 k j)) * rowScale (row x r) * s (ix2 0 j)

/-- The gate `g` and the linear part `u` joined: `silu g * u`. -/
def swiglu (g u : EReal) : EReal := g * Ideal.logistic g * u

/-- Row `r` of the activations: the gate from the first half of the columns, the linear part from the second. -/
def act (x : (⟨2, ![3072, 8192]⟩ : Shape).Idx → EReal) (w : (⟨2, ![8192, 7168]⟩ : Shape).Idx → EReal)
    (s : (⟨2, ![1, 7168]⟩ : Shape).Idx → EReal) (r : Fin 3072) : Fin 3584 → EReal := fun q =>
  swiglu (product x w s r ⟨q.val, by omega⟩) (product x w s r ⟨3584 + q.val, by omega⟩)

/-- The scales of the rows of activations. -/
def hScales (x : (⟨2, ![3072, 8192]⟩ : Shape).Idx → EReal) (w : (⟨2, ![8192, 7168]⟩ : Shape).Idx → EReal) (s : (⟨2, ![1, 7168]⟩ : Shape).Idx → EReal) : (⟨2, ![3072, 1]⟩ : Shape).Idx → EReal :=
  fun i => rowScale (act x w s (i 0))
/-- The codes of the activations. -/
def hCodes (x : (⟨2, ![3072, 8192]⟩ : Shape).Idx → EReal) (w : (⟨2, ![8192, 7168]⟩ : Shape).Idx → EReal) (s : (⟨2, ![1, 7168]⟩ : Shape).Idx → EReal) : (⟨2, ![3072, 3584]⟩ : Shape).Idx → EReal :=
  fun i => code (act x w s (i 0)) (i 1)
/-- The codes of the rows. -/
def xCodes (x : (⟨2, ![3072, 8192]⟩ : Shape).Idx → EReal) : (⟨2, ![3072, 8192]⟩ : Shape).Idx → EReal := fun i => code (row x (i 0)) (i 1)
/-- The scales of the rows. -/
def xScales (x : (⟨2, ![3072, 8192]⟩ : Shape).Idx → EReal) : (⟨2, ![3072, 1]⟩ : Shape).Idx → EReal := fun i => rowScale (row x (i 0))

end Cert.Spec

end
-- ==== Proof.KernelValue.lean ====
/-
  What the kernel's result arrays hold, over the extended reals: the scales and codes of the rows `x`, and of the rows of
  activations (`final_5` to `final_8`).
-/
module

public import Idealize.ShloMosaic.Lib.Pipeline.ValueKit
public import proofs.«01_k».proof.Proof.Data
public import proofs.«01_k».proof.Proof.KernelRows
public import proofs.«01_k».proof.Proof.Spec

@[expose] public section

set_option maxRecDepth 16384

noncomputable section

namespace Cert.KernelIdeal.Value

open Idealize.ShloMosaic hiding ix1 ix2 eq_ix2
open Idealize.ShloMosaic.TcCoe
open Idealize.ShloMosaic.ValueIdx
open Idealize.SL.Sem
open Idealize.ShloMosaic.Pipeline (Dat)
open Cert.KernelIdeal Cert.KernelIdeal.Gen Cert.KernelIdeal.Tiles Cert.KernelIdeal.Data Cert.KernelIdeal.Rows Cert.Row Cert.Spec

variable (m : (ℓ : Loc nD τ sig) → Buf (Elt Ideal) ℓ)

/-- Which block of its array each window shows at point `t`. -/
theorem idx : ∀ t : Fin cfg0.N, win0_0.index t = ![t.val / 7, 0] ∧ win0_1.index t = ![0, t.val % 7] ∧ win0_2.index t = ![0, t.val % 7 + 7]
    ∧ win0_3.index t = ![0, t.val % 7] ∧ win0_4.index t = ![0, t.val % 7 + 7] ∧ win0_5.index t = ![t.val / 7, 0]
    ∧ win0_6.index t = ![t.val / 7, 0] ∧ win0_7.index t = ![t.val / 7, 0] ∧ win0_8.index t = ![t.val / 7, 0] ∧ t.val / 7 < 6 :=
  (by decide +kernel : ∀ t : Fin grid0.N, _)

/-- The rows the kernel quantises, as it finds them. -/
abbrev X (c : Dev nD) : Vec Ideal S3072x8192 .bf16 := V m c main_v0
/-- The weights' codes. -/
abbrev W (c : Dev nD) : Vec Ideal S8192x7168 .fp8e4m3 := V m c main_arg1
/-- The weights' scales. -/
abbrev S (c : Dev nD) : Vec Ideal S1x7168 .f32 := V m c main_v1

/-- Row `p` of the block of point `t`. -/
def at0 (t : Fin cfg0.N) (p : Fin 512) : Fin 3072 := ⟨t.val / 7 * 512 + p.val, by have := (idx t).2.2.2.2.2.2.2.2.2; omega⟩

/-- The first block holds rows of `x`. -/
theorem iblk0 (c : Dev nD) (t : Fin cfg0.N) (p : Fin 512) (k : Fin 8192) : iblk m c 0 t (ix2 p k) = X m c (ix2 (at0 t p) k) := by
  unfold at0
  blk_ext [iblk, idx t]

/-- The second holds columns of the weights of the gate. -/
theorem iblk1 (c : Dev nD) (t : Fin cfg0.N) (k : Fin 8192) (q : Fin 512) :
    iblk m c 1 t (ix2 k q) = W m c (ix2 k ⟨t.val % 7 * 512 + q.val, by omega⟩) := by
  blk_ext [iblk, idx t]

/-- The third holds columns of the weights of the linear part. -/
theorem iblk2 (c : Dev nD) (t : Fin cfg0.N) (k : Fin 8192) (q : Fin 512) :
    iblk m c 2 t (ix2 k q) = W m c (ix2 k ⟨(t.val % 7 + 7) * 512 + q.val, by omega⟩) := by
  blk_ext [iblk, idx t]

/-- The fourth holds the scales of the gate's columns. -/
theorem iblk3 (c : Dev nD) (t : Fin cfg0.N) (q : Fin 512) :
    iblk m c 3 t (ix2 0 q) = S m c (ix2 0 ⟨t.val % 7 * 512 + q.val, by omega⟩) := by
  blk_ext [iblk, idx t]

/-- The fifth holds the scales of the linear part's columns. -/
theorem iblk4 (c : Dev nD) (t : Fin cfg0.N) (q : Fin 512) :
    iblk m c 4 t (ix2 0 q) = S m c (ix2 0 ⟨(t.val % 7 + 7) * 512 + q.val, by omega⟩) := by
  blk_ext [iblk, idx t]

/-- A tile of activations, entry by entry, from the blocks it is made of. -/
theorem pay1_apply (xc : Vec Ideal S512x8192 .fp8e4m3) (xs : Vec Ideal S512x1 .f32) (wg wu : Vec Ideal S8192x512 .fp8e4m3)
    (sg su : Vec Ideal S1x512 .f32) (p q : Fin 512) :
    k0_pay1 xc xs wg wu sg su (ix2 p q)
      = swiglu ((∑ k, xc (ix2 p k) * wg (ix2 k q)) * xs (ix2 p 0) * sg (ix2 0 q))
          ((∑ k, xc (ix2 p k) * wu (ix2 k q)) * xs (ix2 p 0) * su (ix2 0 q)) := by
  unfold swiglu
  pointwise [k0_pay1]
  rfl

/-- A tile of activations, entry by entry: rows of `x` against columns of the weights. -/
theorem hTile_apply (c : Dev nD) (t : Fin cfg0.N) (p q : Fin 512) :
    hTile m c t (ix2 p q) = act (X m c) (W m c) (S m c) (at0 t p) ⟨t.val % 7 * 512 + q.val, by omega⟩ := by
  have hx : (fun k => iblk m c 0 t (ix2 p k)) = row (X m c) (at0 t p) := funext fun k => iblk0 m c t p k
  unfold hTile
  rw [pay1_apply, xScale_apply, hx, iblk3, iblk4]
  simp only [xCodes_apply, iblk1, iblk2]
  rw [hx]
  unfold act product
  refine congrArg₂ swiglu rfl ?_
  have e : (⟨(t.val % 7 + 7) * 512 + q.val, by omega⟩ : Fin 7168) = ⟨3584 + (t.val % 7 * 512 + q.val), by omega⟩ := Fin.ext (by show (t.val % 7 + 7) * 512 + q.val = 3584 + (t.val % 7 * 512 + q.val); omega)
  rw [e]

/-- The activations of a row block, entry by entry. -/
theorem hBlock_apply (c : Dev nD) (t : Fin cfg0.N) (p : Fin 512) (q : Fin 3584) :
    hBlock m c t (ix2 p q) = act (X m c) (W m c) (S m c) (at0 t p) q := by
  unfold hBlock
  refine (hTile_apply m c _ p _).trans (congrArg₂ (act (X m c) (W m c) (S m c)) (Fin.ext ?_) (Fin.ext ?_))
  · show (7 * (t.val / 7) + q.val / 512) / 7 * 512 + p.val = t.val / 7 * 512 + p.val
    have := q.isLt
    have e : (7 * (t.val / 7) + q.val / 512) / 7 = t.val / 7 := by omega
    rw [e]
  · show (7 * (t.val / 7) + q.val / 512) % 7 * 512 + q.val % 512 = q.val
    have := q.isLt
    omega

/-- The array of the scales of the activations after the run. -/
theorem final_5 (c : Dev nD) : (dats m 0 c).arrAt 5 (cfgs 0).N = Spec.hScales (X m c) (W m c) (S m c) := by
  refine (dats m 0 c).arrAt_eq_of_covers 5 _ (by decide +kernel) fun t _ y => ?_
  blk_simp
  rw [after_5]
  obtain ⟨p, u, rfl⟩ : ∃ (p : Fin 512) (u : Fin 1), y = ix2 p u := ⟨y 0, y 1, eq_ix2 y⟩
  refine (hScale_apply _ p u).trans ?_
  simp only [hBlock_apply]
  refine congrArg (fun r => rowScale (act (X m c) (W m c) (S m c) r)) (Fin.ext ?_)
  blk_simp [idx t]
  rfl

/-- The array of the codes of the activations after the run. -/
theorem final_6 (c : Dev nD) : (dats m 0 c).arrAt 6 (cfgs 0).N = Spec.hCodes (X m c) (W m c) (S m c) := by
  refine (dats m 0 c).arrAt_eq_of_covers 6 _ (by decide +kernel) fun t _ y => ?_
  blk_simp
  rw [after_6]
  obtain ⟨p, q, rfl⟩ : ∃ (p : Fin 512) (q : Fin 3584), y = ix2 p q := ⟨y 0, y 1, eq_ix2 y⟩
  refine (hCodes_apply _ p q).trans ?_
  simp only [hBlock_apply]
  refine congrArg₂ (fun r k => code (act (X m c) (W m c) (S m c) r) k) (Fin.ext ?_) (Fin.ext ?_) <;> blk_simp [idx t] <;> first | rfl | simp

/-- The array of the codes of the rows after the run. -/
theorem final_7 (c : Dev nD) : (dats m 0 c).arrAt 7 (cfgs 0).N = Spec.xCodes (X m c) := by
  refine (dats m 0 c).arrAt_eq_of_covers 7 _ (by decide +kernel) fun t _ y => ?_
  blk_simp
  rw [after_7]
  obtain ⟨p, q, rfl⟩ : ∃ (p : Fin 512) (q : Fin 8192), y = ix2 p q := ⟨y 0, y 1, eq_ix2 y⟩
  refine (xCodes_apply _ p q).trans ?_
  simp only [iblk0]
  refine congrArg₂ (fun r k => code (row (X m c) r) k) (Fin.ext ?_) (Fin.ext ?_) <;> blk_simp [idx t] <;> first | rfl | simp

/-- The array of the scales of the rows after the run. -/
theorem final_8 (c : Dev nD) : (dats m 0 c).arrAt 8 (cfgs 0).N = Spec.xScales (X m c) := by
  refine (dats m 0 c).arrAt_eq_of_covers 8 _ (by decide +kernel) fun t _ y => ?_
  blk_simp
  rw [after_8]
  obtain ⟨p, u, rfl⟩ : ∃ (p : Fin 512) (u : Fin 1), y = ix2 p u := ⟨y 0, y 1, eq_ix2 y⟩
  refine (xScale_apply _ p u).trans ?_
  simp only [iblk0]
  refine congrArg (fun r => rowScale (row (X m c) r)) (Fin.ext ?_)
  blk_simp [idx t]
  rfl

end Cert.KernelIdeal.Value

end
-- ==== Proof.KernelRun.lean ====
/-
  What the kernel returns, over the extended reals: its four results as functions of its arguments (`run`).
-/
module

public import Idealize.ShloMosaic.Lib.Claim
public import proofs.«01_k».proof.Proof.KernelValue

@[expose] public section

set_option maxRecDepth 16384

noncomputable section

namespace Cert.KernelIdeal.Run

open Idealize.ShloMosaic Idealize.SL.Sem
open Idealize.ShloMosaic.TcCoe
open Cert.KernelIdeal Cert.KernelIdeal.Gen Cert.KernelIdeal.Value

variable (m : (ℓ : Loc nD τ sig) → Buf (Elt Ideal) ℓ) (ρ : Dev nD → PrngReg)

/-- The rows: the first argument, its two leading axes taken as one. -/
def rows (c : Dev nD) : Vec Ideal S3072x8192 .bf16 :=
  shapeCast S3072x8192 (m ((c.tc : Thread nD τ).loc main_arg0) : Vec Ideal S4x768x8192 .bf16) shapeCasts_S4x768x8192_S3072x8192
/-- The weights' codes: the second argument. -/
def weights (c : Dev nD) : Vec Ideal S8192x7168 .fp8e4m3 := m ((c.tc : Thread nD τ).loc main_arg1)
/-- The weights' scales: the third argument, as one row. -/
def weightScales (c : Dev nD) : Vec Ideal S1x7168 .f32 :=
  shapeCast S1x7168 (m ((c.tc : Thread nD τ).loc main_arg2) : Vec Ideal S7168 .f32) shapeCasts_S7168_S1x7168

/-- The pallas_call finds the rows in its first array. -/
theorem entry_rows (c : Dev nD) : X m c = rows m c := by
  unfold X V V0 rows
  simp only [hostOps0, List.flatten_cons, List.flatten_nil, List.append_nil, StableHlo.after_cons, StableHlo.after_nil]
  after_results_simp
  rfl

/-- It finds the weights' codes as they were given. -/
theorem entry_weights (c : Dev nD) : W m c = weights m c := V_main_arg1 m c

/-- It finds the weights' scales as one row. -/
theorem entry_weightScales (c : Dev nD) : S m c = weightScales m c := by
  unfold S V V0 weightScales
  simp only [hostOps0, List.flatten_cons, List.flatten_nil, List.append_nil, StableHlo.after_cons, StableHlo.after_nil]
  after_results_simp
  rfl

/-- What the array of window `w` holds when the lines after the pallas_call start. -/
theorem array (c : Dev nD) (w : Fin cfg0.W) :
    Pipeline.withArrays (cfgs 0).spec c (V0 m c) (fun w => (Data.dats m 0 c).arrAt w (cfgs 0).N) (Proc.devRef .tc (Pipeline.arrRef (cfgs 0).spec w))
      = (Data.dats m 0 c).arrAt w (cfgs 0).N :=
  Pipeline.withArrays_arr_shared _ c (V0 m c) _ ((Data.dats m 0 c).arrAt_sharedIn sharedIn0 (V0 m c) (Data.A_eq m c) _) w

/-- The scales of the activations, as returned. -/
theorem result_0 (c : Dev nD) : Pipeline.afterTail₀ cfgs (Data.dats m) 0 (V0 m) [hostOps1] c main_v3
    = (shapeCast S4x768x1 (Spec.hScales (rows m c) (weights m c) (weightScales m c) : Vec Ideal S3072x1 .f32) shapeCasts_S3072x1_S4x768x1 : Vec Ideal S4x768x1 .f32) := by
  have h := (array m c 5).trans (final_5 m c)
  rw [entry_rows, entry_weights, entry_weightScales] at h
  unfold Pipeline.afterTail₀
  simp only [hostOps1, List.flatten_cons, List.flatten_nil, List.append_nil, StableHlo.after_cons, StableHlo.after_nil]
  after_results_simp
  exact congrArg (fun Y : Vec Ideal S3072x1 .f32 => (shapeCast S4x768x1 Y shapeCasts_S3072x1_S4x768x1 : Vec Ideal S4x768x1 .f32)) h

/-- The codes of the activations, as returned. -/
theorem result_1 (c : Dev nD) : Pipeline.afterTail₀ cfgs (Data.dats m) 0 (V0 m) [hostOps1] c main_v4
    = (shapeCast S4x768x3584 (Spec.hCodes (rows m c) (weights m c) (weightScales m c) : Vec Ideal S3072x3584 .fp8e4m3) shapeCasts_S3072x3584_S4x768x3584 : Vec Ideal S4x768x3584 .fp8e4m3) := by
  have h := (array m c 6).trans (final_6 m c)
  rw [entry_rows, entry_weights, entry_weightScales] at h
  unfold Pipeline.afterTail₀
  simp only [hostOps1, List.flatten_cons, List.flatten_nil, List.append_nil, StableHlo.after_cons, StableHlo.after_nil]
  after_results_simp
  exact congrArg (fun Y : Vec Ideal S3072x3584 .fp8e4m3 => (shapeCast S4x768x3584 Y shapeCasts_S3072x3584_S4x768x3584 : Vec Ideal S4x768x3584 .fp8e4m3)) h

/-- The codes of the rows, as returned. -/
theorem result_2 (c : Dev nD) : Pipeline.afterTail₀ cfgs (Data.dats m) 0 (V0 m) [hostOps1] c main_v5
    = (shapeCast S4x768x8192 (Spec.xCodes (rows m c) : Vec Ideal S3072x8192 .fp8e4m3) shapeCasts_S3072x8192_S4x768x8192 : Vec Ideal S4x768x8192 .fp8e4m3) := by
  have h := (array m c 7).trans (final_7 m c)
  rw [entry_rows] at h
  unfold Pipeline.afterTail₀
  simp only [hostOps1, List.flatten_cons, List.flatten_nil, List.append_nil, StableHlo.after_cons, StableHlo.after_nil]
  after_results_simp
  exact congrArg (fun Y : Vec Ideal S3072x8192 .fp8e4m3 => (shapeCast S4x768x8192 Y shapeCasts_S3072x8192_S4x768x8192 : Vec Ideal S4x768x8192 .fp8e4m3)) h

/-- The scales of the rows, as returned. -/
theorem result_3 (c : Dev nD) : Pipeline.afterTail₀ cfgs (Data.dats m) 0 (V0 m) [hostOps1] c main_v6
    = (shapeCast S4x768x1 (Spec.xScales (rows m c) : Vec Ideal S3072x1 .f32) shapeCasts_S3072x1_S4x768x1 : Vec Ideal S4x768x1 .f32) := by
  have h := (array m c 8).trans (final_8 m c)
  rw [entry_rows] at h
  unfold Pipeline.afterTail₀
  simp only [hostOps1, List.flatten_cons, List.flatten_nil, List.append_nil, StableHlo.after_cons, StableHlo.after_nil]
  after_results_simp
  exact congrArg (fun Y : Vec Ideal S3072x1 .f32 => (shapeCast S4x768x1 Y shapeCasts_S3072x1_S4x768x1 : Vec Ideal S4x768x1 .f32)) h

/-- The kernel's run: the four results, and the arguments as they were. -/
theorem run : θ_run defs (onTc (τ := τ) (main (F := Ideal))) (s₀ m ρ) (fun r => ∀ c : Dev nD,
      r.2.mem ((c.tc : Thread nD τ).loc main_v3) = (shapeCast S4x768x1 (Spec.hScales (rows m c) (weights m c) (weightScales m c) : Vec Ideal S3072x1 .f32) shapeCasts_S3072x1_S4x768x1 : Vec Ideal S4x768x1 .f32)
      ∧ r.2.mem ((c.tc : Thread nD τ).loc main_v4) = (shapeCast S4x768x3584 (Spec.hCodes (rows m c) (weights m c) (weightScales m c) : Vec Ideal S3072x3584 .fp8e4m3) shapeCasts_S3072x3584_S4x768x3584 : Vec Ideal S4x768x3584 .fp8e4m3)
      ∧ r.2.mem ((c.tc : Thread nD τ).loc main_v5) = (shapeCast S4x768x8192 (Spec.xCodes (rows m c) : Vec Ideal S3072x8192 .fp8e4m3) shapeCasts_S3072x8192_S4x768x8192 : Vec Ideal S4x768x8192 .fp8e4m3)
      ∧ r.2.mem ((c.tc : Thread nD τ).loc main_v6) = (shapeCast S4x768x1 (Spec.xScales (rows m c) : Vec Ideal S3072x1 .f32) shapeCasts_S3072x1_S4x768x1 : Vec Ideal S4x768x1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ?_) (θ_run_and (Cert.KernelIdeal.Data.run_main m ρ) (frame_of m ρ (Data.dats m) (Data.A_eq m) (Cert.KernelIdeal.Data.run_main m ρ)))
  refine ⟨?_, ?_, ?_, ?_, h.2 c⟩
  · exact ((h.1 c).2 main_v3 (Pipeline.mem_restRefs_of main_v3 (by decide) (by decide))).trans (result_0 m c)
  · exact ((h.1 c).2 main_v4 (Pipeline.mem_restRefs_of main_v4 (by decide) (by decide))).trans (result_1 m c)
  · exact ((h.1 c).2 main_v5 (Pipeline.mem_restRefs_of main_v5 (by decide) (by decide))).trans (result_2 m c)
  · exact ((h.1 c).2 main_v6 (Pipeline.mem_restRefs_of main_v6 (by decide) (by decide))).trans (result_3 m c)

end Cert.KernelIdeal.Run

end
-- ==== Proof.Smallest.lean ====
/-
  A row's scale as the reference states it: the smallest of the powers of two from `2 ^ -126` to `2 ^ 126` that is greater
  than the row's largest absolute value over 448, and 1 for a row of zeros or with an infinity in it. It is the power of two
  of `Cert.Row.rowScale` (`scale_eq`).

  Below, the reference's printed operations at any shape: the column of scales (`scale_col`) and the codes (`codes_apply`).
-/
module

public import Idealize.ShloMosaic.Lib.ValueLayout
public import Idealize.ShloMosaic.Lib.Pipeline.Value
public import proofs.«01_k».proof.Proof.Row

@[expose] public section

noncomputable section

namespace Cert.Smallest

open Idealize.ShloMosaic hiding ix1 ix2 eq_ix2
open Idealize.ShloMosaic.ValueIdx
open Cert.Exponent Cert.Row

/-- The exponent of candidate `k`, as the printed word. -/
theorem exponent_word : ∀ k : Fin 253, (IntOp.subi (BitVec.ofNat 32 k.val) 126#32).toInt = (k.val : ℤ) - 126 := by decide +kernel

/-- Candidate `k` is `2 ^ (k - 126)`. -/
theorem candidate (k : Fin 253) : Ideal.exp2 (((IntOp.subi (BitVec.ofNat 32 k.val) 126#32).toInt : ℝ) : EReal) = two ((k.val : ℤ) - 126) := by
  rw [exponent_word, Ideal.exp2_coe]
  exact congrArg Real.toEReal (Real.rpow_intCast 2 _)

/-- Of a positive real the smallest greater candidate, or else the greatest one, is the power of two at the exponent held. -/
theorem smallest {r : ℝ} (hr : 0 < r) :
    ((Finset.univ : Finset (Fin 253)).fold min ⊤ fun k => if (r : EReal) < two ((k.val : ℤ) - 126) then two ((k.val : ℤ) - 126) else two 126)
      = two (held (r : EReal)) := by
  have hx : expo (r : EReal) = max (-127) (min 127 (lg r)) + 1 := by
    unfold expo
    rw [if_neg (by rintro (h | h); · exact hr.ne' (by exact_mod_cast h)
                   · exact EReal.coe_ne_top _ h), EReal.toReal_coe]
  have hlt : ∀ j : ℤ, (r : EReal) < two j ↔ lg r < j := fun j => by
    rw [← not_le, ← not_le, ← zpow_le_iff hr]; unfold two; rw [EReal.coe_le_coe_iff]
  have hle : ∀ i j : ℤ, two i ≤ two j ↔ i ≤ j := fun i j => by rw [← not_lt, ← not_lt, two_lt_two]
  unfold held
  rw [hx]
  generalize lg r = n at hlt
  refine le_antisymm ((Finset.fold_min_le _).2 (Or.inr ⟨⟨(max (-126) (min 126 (max (-127) (min 127 n) + 1)) + 126).toNat, by omega⟩, Finset.mem_univ _, ?_⟩))
    ((Finset.le_fold_min _).2 ⟨le_top, fun k _ => ?_⟩)
  · have e : (((max (-126) (min 126 (max (-127) (min 127 n) + 1)) + 126).toNat : ℕ) : ℤ) - 126 = max (-126) (min 126 (max (-127) (min 127 n) + 1)) := by omega
    show (if (r : EReal) < two (((max (-126) (min 126 (max (-127) (min 127 n) + 1)) + 126).toNat : ℕ) - 126 : ℤ) then _ else _) ≤ _
    split_ifs with h
    · rw [e]
    · rw [e, hlt] at h
      rw [hle]; omega
  · have := k.isLt
    split_ifs with h
    · rw [hlt] at h
      rw [hle]; omega
    · rw [hle]; omega

/-- The pattern of one. -/
theorem lit_one : Ideal.ofBits .f32 0x3F800000#32 = two 0 := lit _ 0 (by decide)
/-- The pattern of the greatest candidate. -/
theorem lit_greatest : Ideal.ofBits .f32 0x7E800000#32 = two 126 := lit _ 126 (by decide)

/-- THE SCALE: the reference's is the kernel's. -/
theorem scale_eq {a : EReal} (h : 0 ≤ a) :
    Scalar.select (IntOp.ori (Ideal.cmp .oeq a (Ideal.ofBits .f32 0x00000000#32)) (Ideal.cmp .oeq a (Ideal.ofBits .f32 0x7F800000#32)))
      (Ideal.ofBits .f32 0x3F800000#32)
      ((Finset.univ : Finset (Fin 253)).fold min (Ideal.ofBits .f32 0x7F800000#32) fun k =>
        Scalar.select (Ideal.cmp .ogt (Ideal.exp2 (((IntOp.subi (BitVec.ofNat 32 k.val) 126#32).toInt : ℝ) : EReal)) (a * unit))
          (Ideal.exp2 (((IntOp.subi (BitVec.ofNat 32 k.val) 126#32).toInt : ℝ) : EReal)) (Ideal.ofBits .f32 0x7E800000#32))
      = two (held (a * unit)) := by
  simp only [candidate, lit_zero, lit_top, lit_one, lit_greatest]
  unfold Ideal.cmp
  simp only [select_ofBool]
  rw [show ∀ p q : Bool, IntOp.ori (BitVec.ofBool p) (BitVec.ofBool q) = BitVec.ofBool (p || q) from by decide, select_ofBool]
  by_cases h0 : a = 0
  · subst h0
    simp [held, expo]
  by_cases h1 : a = ⊤
  · subst h1
    have := (mul_unit_eq_top h).2 rfl
    rw [this]
    simp [held, expo]
  rw [if_neg (by simp [h0, h1])]
  have hv := mul_unit_nonneg h
  have hv0 : a * unit ≠ 0 := fun e => h0 (mul_unit_eq_zero.1 e)
  have hv1 : a * unit ≠ ⊤ := fun e => h1 ((mul_unit_eq_top h).1 e)
  generalize a * unit = v at hv hv0 hv1
  induction v with
  | bot => exact absurd hv (by simp)
  | top => exact absurd rfl hv1
  | coe r =>
    have hr : 0 < r := lt_of_le_of_ne (by exact_mod_cast hv) fun e => hv0 (by rw [← e]; rfl)
    rw [← smallest hr]
    refine Finset.fold_congr fun k _ => ?_
    simp

/-! ## The printed operations, at any shape -/

/-- The smallest entry of each row, as a column. -/
theorem rowMin_col {a n : ℕ} (T : FVec Ideal ⟨2, ![a, n]⟩ .f32) (h : (⟨2, ![a, n]⟩ : Shape).Reduces [1] ⟨1, ![a]⟩)
    (hφ : FKind.Formats .f32) (hacc : (0x7F800000#32 : BitVec 32) = FKind.minimumf.neutral .f32 hφ)
    (hc : (⟨1, ![a]⟩ : Shape).ShapeCasts ⟨2, ![a, 1]⟩) (p : Fin a) (u : Fin 1) :
    shapeCast ⟨2, ![a, 1]⟩ (multiReduction .minimumf [1] ⟨1, ![a]⟩ T 0x7F800000#32 h hφ hacc) hc (ix2 p u)
      = (Finset.univ : Finset (Fin n)).fold min (Ideal.ofBits .f32 0x7F800000#32) fun k => T (ix2 p k) := by
  rw [shapeCast_a_a1_apply, multiReduction_minimumf_eq_fold, h.fold_filter_drop_single]
  refine Finset.fold_congr fun k _ => ?_
  have e : h.lift (ix1 p) k = ix2 p k := by
    refine (eq_ix2 _).trans ?_
    rfl
  exact congrArg T e

/-- A column of scales, from the column of the largest absolute values. -/
theorem scale_col {a : ℕ} (M : FVec Ideal ⟨2, ![a, 1]⟩ .f32) (A : FVec Ideal ⟨2, ![1, 253]⟩ .f32)
    (hA : ∀ k : Fin 253, A (ix2 0 k) = Ideal.exp2 (((IntOp.subi (BitVec.ofNat 32 k.val) 126#32).toInt : ℝ) : EReal))
    (hb : (⟨2, ![1, 253]⟩ : Shape).Broadcasts ⟨2, ![a, 253]⟩) (hd : (⟨2, ![a, 1]⟩ : Shape).Broadcasts ⟨2, ![a, 253]⟩)
    (hs : (⟨2, ![1, 253]⟩ : Shape).ShapeCasts ⟨2, ![1, 253]⟩)
    (h : (⟨2, ![a, 253]⟩ : Shape).Reduces [1] ⟨1, ![a]⟩) (hφ : FKind.Formats .f32)
    (hacc : (0x7F800000#32 : BitVec 32) = FKind.minimumf.neutral .f32 hφ) (hc : (⟨1, ![a]⟩ : Shape).ShapeCasts ⟨2, ![a, 1]⟩)
    (p : Fin a) (u : Fin 1) (hM : 0 ≤ (M (ix2 p 0) : EReal)) :
    select (ori (cmpf .oeq M (broadcast ⟨2, ![a, 1]⟩ (Scalar.ofBits .f32 0x00000000#32)))
        (cmpf .oeq M (broadcast ⟨2, ![a, 1]⟩ (Scalar.ofBits .f32 0x7F800000#32))))
      (broadcast ⟨2, ![a, 1]⟩ (Scalar.ofBits .f32 0x3F800000#32))
      (shapeCast ⟨2, ![a, 1]⟩ (multiReduction .minimumf [1] ⟨1, ![a]⟩
        (select (cmpf .ogt (broadcastTo ⟨2, ![a, 253]⟩ A hb)
            (broadcastTo ⟨2, ![a, 253]⟩ (mulf M (broadcast ⟨2, ![a, 1]⟩ (Scalar.ofBits .f32 0x3B124925#32))) hd))
          (broadcastTo ⟨2, ![a, 253]⟩ (shapeCast ⟨2, ![1, 253]⟩ A hs) hb)
          (broadcast ⟨2, ![a, 253]⟩ (Scalar.ofBits .f32 0x7E800000#32)))
        0x7F800000#32 h hφ hacc) hc) (ix2 p u)
      = two (held (M (ix2 p 0) * unit)) := by
  obtain rfl : u = 0 := Subsingleton.elim _ _
  rw [← scale_eq hM, shapeCast_self]
  refine congrArg (Scalar.select _ _) ((rowMin_col _ h hφ hacc hc p 0).trans (Finset.fold_congr fun k _ => ?_))
  rw [← hA k]
  show Scalar.select (FloatOps.cmpf .ogt (broadcastTo ⟨2, ![a, 253]⟩ A hb (ix2 p k)) (broadcastTo ⟨2, ![a, 253]⟩ (mulf M (broadcast ⟨2, ![a, 1]⟩ (Scalar.ofBits .f32 0x3B124925#32))) hd (ix2 p k)))
    (broadcastTo ⟨2, ![a, 253]⟩ A hb (ix2 p k)) _ = _
  rw [broadcastTo_1b_ab_apply, broadcast_col]
  rfl

/-- A code, from the element and the inverse of the scale. -/
theorem codes_apply {s : Shape} (Y B : FVec Ideal s .f32) (h : FTy.bits .fp8e4m3 < FTy.bits .f32) (i : s.Idx) :
    (truncf .fp8e4m3 (minimumf (broadcast s (Scalar.ofBits .f32 0x43E00000#32)) (maximumf (broadcast s (Scalar.ofBits .f32 0xC3E00000#32)) (mulf Y B))) h
      : FVec Ideal s .fp8e4m3) i = clip (Y i * B i) := rfl

/-- The inverse of a scale. -/
theorem inv_apply {s : Shape} (Z : FVec Ideal s .f32) (i : s.Idx) :
    divf (broadcast s (Scalar.ofBits .f32 0x3F800000#32)) Z i = Ideal.div (two 0) (Z i) := by
  rw [← lit_one]; rfl

end Cert.Smallest

end
-- ==== Proof.ReferenceRows.lean ====
/-
  What the reference computes, over the extended reals, entry by entry: the scales and codes of the rows `x` and of the rows
  of activations.
-/
module

public import proofs.«01_k».proof.Proof.Gen.ReferenceIdeal.Frame
public import proofs.«01_k».proof.Proof.Smallest
public import proofs.«01_k».proof.Proof.Spec
public import Idealize.ShloMosaic.Lib.Pointwise

@[expose] public section

set_option maxRecDepth 16384

noncomputable section

namespace Cert.ReferenceIdeal.Rows

open Idealize.ShloMosaic hiding ix1 ix2 eq_ix2
open Idealize.ShloMosaic.ValueIdx
open Cert.ReferenceIdeal Cert.ReferenceIdeal.Gen Cert.Exponent Cert.Row Cert.Smallest Cert.Spec

/-- Over the extended reals the widened rows are the rows. -/
theorem pay1_eq (T : Vec Ideal S3072x8192 .bf16) : k0_pay1 T = T := by
  unfold k0_pay1; rw [shapeCast_self]; rfl

/-- The candidates' exponents, as printed. -/
theorem candidates (k : Fin 253) :
    exp2 (sitofp .f32 (subi (iota .tc S1x253 32 [1] iota_S1x253_d1_w32) (broadcast S1x253 126#32)) : FVec Ideal S1x253 .f32) (ix2 0 k)
      = Ideal.exp2 (((IntOp.subi (BitVec.ofNat 32 k.val) 126#32).toInt : ℝ) : EReal) := by
  show Ideal.exp2 (((IntOp.subi (iota .tc S1x253 32 [1] iota_S1x253_d1_w32 (ix2 0 k)) 126#32).toInt : ℝ) : EReal) = _
  rw [iota_single_apply]

/-- The scales of the rows. -/
theorem pay2_apply (T : Vec Ideal S3072x8192 .bf16) (r : Fin 3072) (u : Fin 1) : k0_pay2 T (ix2 r u) = rowScale (row T r) := by
  unfold k0_pay2
  rw [pay1_eq]
  dsimp only
  have hm : ∀ u : Fin 1, shapeCast S3072x1 (multiReduction .maximumf [1] S3072 (absf (F := Ideal) (φ := .f32) T) 0xFF800000#32 reduces_S3072x8192_S3072 (.inl rfl) rfl) shapeCasts_S3072_S3072x1 (ix2 r u) = rowMax (row T r) :=
    fun u => rowMax_col T _ _ _ _ r u
  generalize shapeCast S3072x1 (multiReduction .maximumf [1] S3072 (absf (F := Ideal) (φ := .f32) T) 0xFF800000#32 reduces_S3072x8192_S3072 (.inl rfl) rfl) shapeCasts_S3072_S3072x1 = M at hm ⊢
  refine (scale_col M _ candidates _ _ _ _ _ _ _ r u (by rw [hm]; exact rowMax_nonneg _ (by norm_num))).trans ?_
  rw [hm]; rfl

/-- The codes of the rows. -/
theorem pay3_apply (T : Vec Ideal S3072x8192 .bf16) (r : Fin 3072) (k : Fin 8192) : k0_pay3 T (ix2 r k) = code (row T r) k := by
  unfold k0_pay3
  rw [pay1_eq]
  refine (codes_apply _ _ _ _).trans ?_
  rw [broadcast_col, inv_apply, pay2_apply]
  unfold rowScale
  rw [two_zero, div_two]; rfl

/-- The activations. -/
theorem pay5_apply (T : Vec Ideal S3072x8192 .bf16) (w : Vec Ideal S8192x7168 .fp8e4m3) (s : Vec Ideal S1x7168 .f32) (r : Fin 3072) (q : Fin 3584) :
    k0_pay5 (k0_pay4 T w) s (ix2 r q) = act T w s r q := by
  have e : ∀ r : Fin 3072, ∀ j : Fin 7168, (∑ k, k0_pay3 T (ix2 r k) * w (ix2 k j)) * k0_pay2 T (ix2 r 0) * s (ix2 0 j) = product T w s r j := fun r j => by
    simp only [pay3_apply, pay2_apply]; rfl
  unfold act
  rw [← e, ← e]
  unfold swiglu
  pointwise [k0_pay5, k0_pay4]
  rfl

/-- The scales of the activations. -/
theorem pay6_apply (T : Vec Ideal S3072x8192 .bf16) (w : Vec Ideal S8192x7168 .fp8e4m3) (s : Vec Ideal S1x7168 .f32) (r : Fin 3072) (u : Fin 1) :
    k0_pay6 (k0_pay4 T w) s (ix2 r u) = rowScale (act T w s r) := by
  unfold k0_pay6
  have hy : ∀ q : Fin 3584, k0_pay5 (k0_pay4 T w) s (ix2 r q) = act T w s r q := pay5_apply T w s r
  generalize k0_pay5 (k0_pay4 T w) s = Y at hy ⊢
  dsimp only
  have hm : ∀ u : Fin 1, shapeCast S3072x1 (multiReduction .maximumf [1] S3072 (absf Y) 0xFF800000#32 reduces_S3072x3584_S3072 (.inl rfl) rfl) shapeCasts_S3072_S3072x1 (ix2 r u) = rowMax (act T w s r) :=
    fun u => (rowMax_col Y _ _ _ _ r u).trans (congrArg rowMax (funext hy))
  generalize shapeCast S3072x1 (multiReduction .maximumf [1] S3072 (absf Y) 0xFF800000#32 reduces_S3072x3584_S3072 (.inl rfl) rfl) shapeCasts_S3072_S3072x1 = M at hm ⊢
  refine (scale_col M _ candidates _ _ _ _ _ _ _ r u (by rw [hm]; exact rowMax_nonneg _ (by norm_num))).trans ?_
  rw [hm]; rfl

/-- The codes of the activations. -/
theorem pay7_apply (T : Vec Ideal S3072x8192 .bf16) (w : Vec Ideal S8192x7168 .fp8e4m3) (s : Vec Ideal S1x7168 .f32) (r : Fin 3072) (q : Fin 3584) :
    k0_pay7 (k0_pay4 T w) s (ix2 r q) = code (act T w s r) q := by
  unfold k0_pay7
  refine (codes_apply _ _ _ _).trans ?_
  rw [broadcast_col, inv_apply, pay6_apply, pay5_apply]
  unfold rowScale
  rw [two_zero, div_two]; rfl

end Cert.ReferenceIdeal.Rows

end
-- ==== Proof.ReferenceValue.lean ====
/-
  What the reference's result arrays hold, over the extended reals: the scales and codes of the rows `x`, and of the rows of
  activations (`final_3` to `final_6`).
-/
module

public import Idealize.ShloMosaic.Lib.Pipeline.ValueKit
public import proofs.«01_k».proof.Proof.ReferenceRows

@[expose] public section

set_option maxRecDepth 16384

noncomputable section

namespace Cert.ReferenceIdeal.Value

open Idealize.ShloMosaic hiding ix1 ix2 eq_ix2
open Idealize.ShloMosaic.TcCoe
open Idealize.ShloMosaic.ValueIdx
open Idealize.SL.Sem
open Idealize.ShloMosaic.Pipeline (Dat)
open Cert.ReferenceIdeal Cert.ReferenceIdeal.Gen Cert.ReferenceIdeal.Rows Cert.Row Cert.Spec

variable (m : (ℓ : Loc nD τ sig) → Buf (Elt Ideal) ℓ)

/-- Every window shows its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The rows the reference quantises. -/
abbrev X (c : Dev nD) : Vec Ideal S3072x8192 .bf16 := V m c main_v0
/-- The weights' codes. -/
abbrev W (c : Dev nD) : Vec Ideal S8192x7168 .fp8e4m3 := V m c main_arg1
/-- The weights' scales. -/
abbrev S (c : Dev nD) : Vec Ideal S1x7168 .f32 := V m c main_v1

/-- The first block is all the rows. -/
theorem iblk0 (c : Dev nD) (t : Fin cfg0.N) : (iblk m c 0 t : Vec Ideal S3072x8192 .bf16) = X m c := by
  funext y
  obtain ⟨p, k, rfl⟩ : ∃ (p : Fin 3072) (k : Fin 8192), y = ix2 p k := ⟨y 0, y 1, eq_ix2 y⟩
  blk_ext [iblk, idx t]

/-- The second is all the weights. -/
theorem iblk1 (c : Dev nD) (t : Fin cfg0.N) : (iblk m c 1 t : Vec Ideal S8192x7168 .fp8e4m3) = W m c := by
  funext y
  obtain ⟨p, k, rfl⟩ : ∃ (p : Fin 8192) (k : Fin 7168), y = ix2 p k := ⟨y 0, y 1, eq_ix2 y⟩
  blk_ext [iblk, idx t]

/-- The third is all their scales. -/
theorem iblk2 (c : Dev nD) (t : Fin cfg0.N) : (iblk m c 2 t : Vec Ideal S1x7168 .f32) = S m c := by
  funext y
  obtain ⟨p, k, rfl⟩ : ∃ (p : Fin 1) (k : Fin 7168), y = ix2 p k := ⟨y 0, y 1, eq_ix2 y⟩
  blk_ext [iblk, idx t]

/-- The products, of the whole arrays. -/
theorem pay8_eq (x : Vec Ideal S3072x8192 .bf16) (w : Vec Ideal S8192x7168 .fp8e4m3) (s : Vec Ideal S1x7168 .f32) :
    k0_pay8 x w s = k0_pay4 x w := by
  unfold k0_pay8
  frame_out

/-- The array of the scales of the activations after the run. -/
theorem final_3 (c : Dev nD) : (dats m 0 c).arrAt 3 (cfgs 0).N = Spec.hScales (X m c) (W m c) (S m c) := by
  refine (dats m 0 c).arrAt_eq_of_covers 3 _ (by decide +kernel) fun t _ y => ?_
  blk_simp
  rw [after0_3]
  frame_out
  obtain ⟨p, u, rfl⟩ : ∃ (p : Fin 3072) (u : Fin 1), y = ix2 p u := ⟨y 0, y 1, eq_ix2 y⟩
  rw [pay8_eq]
  refine (pay6_apply _ _ _ p u).trans ?_
  rw [iblk0, iblk1, iblk2]
  refine congrArg (fun r => rowScale (act (X m c) (W m c) (S m c) r)) (Fin.ext ?_)
  blk_simp [idx t]

/-- The array of the codes of the activations after the run. -/
theorem final_4 (c : Dev nD) : (dats m 0 c).arrAt 4 (cfgs 0).N = Spec.hCodes (X m c) (W m c) (S m c) := by
  refine (dats m 0 c).arrAt_eq_of_covers 4 _ (by decide +kernel) fun t _ y => ?_
  blk_simp
  rw [after0_4]
  frame_out
  obtain ⟨p, q, rfl⟩ : ∃ (p : Fin 3072) (q : Fin 3584), y = ix2 p q := ⟨y 0, y 1, eq_ix2 y⟩
  rw [pay8_eq]
  refine (pay7_apply _ _ _ p q).trans ?_
  rw [iblk0, iblk1, iblk2]
  refine congrArg₂ (fun r k => code (act (X m c) (W m c) (S m c) r) k) (Fin.ext ?_) (Fin.ext ?_) <;> blk_simp [idx t] <;> first | rfl | simp

/-- The array of the codes of the rows after the run. -/
theorem final_5 (c : Dev nD) : (dats m 0 c).arrAt 5 (cfgs 0).N = Spec.xCodes (X m c) := by
  refine (dats m 0 c).arrAt_eq_of_covers 5 _ (by decide +kernel) fun t _ y => ?_
  blk_simp
  rw [after0_5]
  frame_out
  obtain ⟨p, q, rfl⟩ : ∃ (p : Fin 3072) (q : Fin 8192), y = ix2 p q := ⟨y 0, y 1, eq_ix2 y⟩
  refine (pay3_apply _ p q).trans ?_
  rw [iblk0]
  refine congrArg₂ (fun r k => code (row (X m c) r) k) (Fin.ext ?_) (Fin.ext ?_) <;> blk_simp [idx t] <;> first | rfl | simp

/-- The array of the scales of the rows after the run. -/
theorem final_6 (c : Dev nD) : (dats m 0 c).arrAt 6 (cfgs 0).N = Spec.xScales (X m c) := by
  refine (dats m 0 c).arrAt_eq_of_covers 6 _ (by decide +kernel) fun t _ y => ?_
  blk_simp
  rw [after0_6]
  frame_out
  obtain ⟨p, u, rfl⟩ : ∃ (p : Fin 3072) (u : Fin 1), y = ix2 p u := ⟨y 0, y 1, eq_ix2 y⟩
  refine (pay2_apply _ p u).trans ?_
  rw [iblk0]
  refine congrArg (fun r => rowScale (row (X m c) r)) (Fin.ext ?_)
  blk_simp [idx t]

end Cert.ReferenceIdeal.Value

end
-- ==== Proof.ReferenceRun.lean ====
/-
  What the reference returns, over the extended reals: its four results as functions of its arguments (`run`).
-/
module

public import Idealize.ShloMosaic.Lib.Claim
public import proofs.«01_k».proof.Proof.ReferenceValue

@[expose] public section

set_option maxRecDepth 16384

noncomputable section

namespace Cert.ReferenceIdeal.Run

open Idealize.ShloMosaic Idealize.SL.Sem
open Idealize.ShloMosaic.TcCoe
open Cert.ReferenceIdeal Cert.ReferenceIdeal.Gen Cert.ReferenceIdeal.Value

variable (m : (ℓ : Loc nD τ sig) → Buf (Elt Ideal) ℓ) (ρ : Dev nD → PrngReg)

/-- The rows: the first argument, its two leading axes taken as one. -/
def rows (c : Dev nD) : Vec Ideal S3072x8192 .bf16 :=
  shapeCast S3072x8192 (m ((c.tc : Thread nD τ).loc main_arg0) : Vec Ideal S4x768x8192 .bf16) shapeCasts_S4x768x8192_S3072x8192
/-- The weights' codes: the second argument. -/
def weights (c : Dev nD) : Vec Ideal S8192x7168 .fp8e4m3 := m ((c.tc : Thread nD τ).loc main_arg1)
/-- The weights' scales: the third argument, as one row. -/
def weightScales (c : Dev nD) : Vec Ideal S1x7168 .f32 :=
  shapeCast S1x7168 (m ((c.tc : Thread nD τ).loc main_arg2) : Vec Ideal S7168 .f32) shapeCasts_S7168_S1x7168

/-- The pallas_call finds the rows in its first array. -/
theorem entry_rows (c : Dev nD) : X m c = rows m c := by
  unfold X V V0 rows
  simp only [hostOps0, List.flatten_cons, List.flatten_nil, List.append_nil, StableHlo.after_cons, StableHlo.after_nil]
  after_results_simp
  rfl

/-- It finds the weights' codes as they were given. -/
theorem entry_weights (c : Dev nD) : W m c = weights m c := V_main_arg1 m c

/-- It finds the weights' scales as one row. -/
theorem entry_weightScales (c : Dev nD) : S m c = weightScales m c := by
  unfold S V V0 weightScales
  simp only [hostOps0, List.flatten_cons, List.flatten_nil, List.append_nil, StableHlo.after_cons, StableHlo.after_nil]
  after_results_simp
  rfl

/-- What the array of window `w` holds when the lines after the pallas_call start. -/
theorem array (c : Dev nD) (w : Fin cfg0.W) :
    Pipeline.withArrays (cfgs 0).spec c (V0 m c) (fun w => (dats m 0 c).arrAt w (cfgs 0).N) (Proc.devRef .tc (Pipeline.arrRef (cfgs 0).spec w))
      = (dats m 0 c).arrAt w (cfgs 0).N :=
  Pipeline.withArrays_arr _ (by decide) c (V0 m c) _ w

/-- The scales of the activations, as returned. -/
theorem result_0 (c : Dev nD) : Pipeline.afterTail₀ cfgs (dats m) 0 (V0 m) [hostOps1] c main_v3
    = (shapeCast S4x768x1 (Spec.hScales (rows m c) (weights m c) (weightScales m c) : Vec Ideal S3072x1 .f32) shapeCasts_S3072x1_S4x768x1 : Vec Ideal S4x768x1 .f32) := by
  have h := (array m c 3).trans (final_3 m c)
  rw [entry_rows, entry_weights, entry_weightScales] at h
  unfold Pipeline.afterTail₀
  simp only [hostOps1, List.flatten_cons, List.flatten_nil, List.append_nil, StableHlo.after_cons, StableHlo.after_nil]
  after_results_simp
  exact congrArg (fun Y : Vec Ideal S3072x1 .f32 => (shapeCast S4x768x1 Y shapeCasts_S3072x1_S4x768x1 : Vec Ideal S4x768x1 .f32)) h

/-- The codes of the activations, as returned. -/
theorem result_1 (c : Dev nD) : Pipeline.afterTail₀ cfgs (dats m) 0 (V0 m) [hostOps1] c main_v4
    = (shapeCast S4x768x3584 (Spec.hCodes (rows m c) (weights m c) (weightScales m c) : Vec Ideal S3072x3584 .fp8e4m3) shapeCasts_S3072x3584_S4x768x3584 : Vec Ideal S4x768x3584 .fp8e4m3) := by
  have h := (array m c 4).trans (final_4 m c)
  rw [entry_rows, entry_weights, entry_weightScales] at h
  unfold Pipeline.afterTail₀
  simp only [hostOps1, List.flatten_cons, List.flatten_nil, List.append_nil, StableHlo.after_cons, StableHlo.after_nil]
  after_results_simp
  exact congrArg (fun Y : Vec Ideal S3072x3584 .fp8e4m3 => (shapeCast S4x768x3584 Y shapeCasts_S3072x3584_S4x768x3584 : Vec Ideal S4x768x3584 .fp8e4m3)) h

/-- The codes of the rows, as returned. -/
theorem result_2 (c : Dev nD) : Pipeline.afterTail₀ cfgs (dats m) 0 (V0 m) [hostOps1] c main_v5
    = (shapeCast S4x768x8192 (Spec.xCodes (rows m c) : Vec Ideal S3072x8192 .fp8e4m3) shapeCasts_S3072x8192_S4x768x8192 : Vec Ideal S4x768x8192 .fp8e4m3) := by
  have h := (array m c 5).trans (final_5 m c)
  rw [entry_rows] at h
  unfold Pipeline.afterTail₀
  simp only [hostOps1, List.flatten_cons, List.flatten_nil, List.append_nil, StableHlo.after_cons, StableHlo.after_nil]
  after_results_simp
  exact congrArg (fun Y : Vec Ideal S3072x8192 .fp8e4m3 => (shapeCast S4x768x8192 Y shapeCasts_S3072x8192_S4x768x8192 : Vec Ideal S4x768x8192 .fp8e4m3)) h

/-- The scales of the rows, as returned. -/
theorem result_3 (c : Dev nD) : Pipeline.afterTail₀ cfgs (dats m) 0 (V0 m) [hostOps1] c main_v6
    = (shapeCast S4x768x1 (Spec.xScales (rows m c) : Vec Ideal S3072x1 .f32) shapeCasts_S3072x1_S4x768x1 : Vec Ideal S4x768x1 .f32) := by
  have h := (array m c 6).trans (final_6 m c)
  rw [entry_rows] at h
  unfold Pipeline.afterTail₀
  simp only [hostOps1, List.flatten_cons, List.flatten_nil, List.append_nil, StableHlo.after_cons, StableHlo.after_nil]
  after_results_simp
  exact congrArg (fun Y : Vec Ideal S3072x1 .f32 => (shapeCast S4x768x1 Y shapeCasts_S3072x1_S4x768x1 : Vec Ideal S4x768x1 .f32)) h

/-- The reference's run: the four results, and the arguments as they were. -/
theorem run : θ_run defs (onTc (τ := τ) (main (F := Ideal))) (s₀ m ρ) (fun r => ∀ c : Dev nD,
      r.2.mem ((c.tc : Thread nD τ).loc main_v3) = (shapeCast S4x768x1 (Spec.hScales (rows m c) (weights m c) (weightScales m c) : Vec Ideal S3072x1 .f32) shapeCasts_S3072x1_S4x768x1 : Vec Ideal S4x768x1 .f32)
      ∧ r.2.mem ((c.tc : Thread nD τ).loc main_v4) = (shapeCast S4x768x3584 (Spec.hCodes (rows m c) (weights m c) (weightScales m c) : Vec Ideal S3072x3584 .fp8e4m3) shapeCasts_S3072x3584_S4x768x3584 : Vec Ideal S4x768x3584 .fp8e4m3)
      ∧ r.2.mem ((c.tc : Thread nD τ).loc main_v5) = (shapeCast S4x768x8192 (Spec.xCodes (rows m c) : Vec Ideal S3072x8192 .fp8e4m3) shapeCasts_S3072x8192_S4x768x8192 : Vec Ideal S4x768x8192 .fp8e4m3)
      ∧ r.2.mem ((c.tc : Thread nD τ).loc main_v6) = (shapeCast S4x768x1 (Spec.xScales (rows m c) : Vec Ideal S3072x1 .f32) shapeCasts_S3072x1_S4x768x1 : Vec Ideal S4x768x1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ?_) (θ_run_and (Cert.ReferenceIdeal.Gen.run_main m ρ) (frame_of m ρ (dats m) (A_eq m) (Cert.ReferenceIdeal.Gen.run_main m ρ)))
  refine ⟨?_, ?_, ?_, ?_, h.2 c⟩
  · exact ((h.1 c).2 main_v3 (Pipeline.mem_restRefs_of main_v3 (by decide) (by decide))).trans (result_0 m c)
  · exact ((h.1 c).2 main_v4 (Pipeline.mem_restRefs_of main_v4 (by decide) (by decide))).trans (result_1 m c)
  · exact ((h.1 c).2 main_v5 (Pipeline.mem_restRefs_of main_v5 (by decide) (by decide))).trans (result_2 m c)
  · exact ((h.1 c).2 main_v6 (Pipeline.mem_restRefs_of main_v6 (by decide) (by decide))).trans (result_3 m c)

end Cert.ReferenceIdeal.Run

end
-- ==== Proof.Equation.lean ====
/-
  The equation: started on the same arguments, the kernel and the reference end with the same four results, over the
  extended reals.
-/
module

public import Idealize.ShloMosaic.Lib.Claim
public import proofs.«01_k».proof.Defs
public import proofs.«01_k».proof.Proof.KernelRun
public import proofs.«01_k».proof.Proof.ReferenceRun

@[expose] public section

set_option maxRecDepth 16384

noncomputable section

namespace Cert.Equation

open Idealize.ShloMosaic Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.ReferenceIdeal.nD)

/-- From the same first argument, the same rows. -/
theorem rows_eq (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Run.rows m' c = Cert.KernelIdeal.Run.rows m c := by
  unfold Cert.ReferenceIdeal.Run.rows
  rw [h]
  rfl

/-- From the same second argument, the same weights. -/
theorem weights_eq (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Run.weights m' c = Cert.KernelIdeal.Run.weights m c := h

/-- From the same third argument, the same scales of the weights. -/
theorem weightScales_eq (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Run.weightScales m' c = Cert.KernelIdeal.Run.weightScales m c := by
  unfold Cert.ReferenceIdeal.Run.weightScales
  rw [h]
  rfl

/-- The kernel's four results are the reference's. -/
theorem algebraic : Cert.algebraic_KernelIdeal_ReferenceIdeal := by
  pair_intro
  · run_from Cert.KernelIdeal.Run.run m g
  · run_from Cert.ReferenceIdeal.Run.run m' g'
    · rw [rows_eq m m' c (hagree c).1, weights_eq m m' c (hagree c).2.1, weightScales_eq m m' c (hagree c).2.2]
    · rw [rows_eq m m' c (hagree c).1, weights_eq m m' c (hagree c).2.1, weightScales_eq m m' c (hagree c).2.2]
    · rw [rows_eq m m' c (hagree c).1]
    · rw [rows_eq m m' c (hagree c).1]

end Cert.Equation

end
-- ==== Proof.lean ====
/-
  The certificate: the claims of `Cert.Claim`, put together from the modules under Proof/.
-/
module

public import proofs.«01_k».proof.Defs
public import proofs.«01_k».proof.Proof.Machine
public import proofs.«01_k».proof.Proof.Data
public import proofs.«01_k».proof.Proof.Equation
public import proofs.«01_k».proof.Proof.Gen.ReferenceIdeal
public import proofs.«01_k».proof.Proof.Gen.ReferenceIdeal.Frame

@[expose] public section

noncomputable section

namespace Cert.Proof

open Idealize.ShloMosaic Idealize.SL.Sem

/-- The certificate. -/
theorem claim : Cert.Claim :=
  ⟨Cert.Kernel.Gen.facts, Cert.KernelIdeal.Gen.facts, Cert.ReferenceIdeal.Gen.facts,
    Cert.Machine.frame, fun m g _ => Cert.KernelIdeal.Data.frame m g, fun m g _ => Cert.ReferenceIdeal.Gen.frame m g,
    trivial, Cert.Equation.algebraic⟩

end Cert.Proof

end
